-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs_zero_biases [hPre_finite_inputs_zero_biases : Cert.Pre_finite_inputs_zero_biases.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_zero_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs_zero_biases [hPre_finite_inputs_zero_biases : Cert.Pre_finite_inputs_zero_biases.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_zero_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_inputs_zero_biases [hKernelIdeal : Cert.KernelIdeal.Facts] [hPre_finite_inputs_zero_biases : Cert.Pre_finite_inputs_zero_biases.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs_zero_biases m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_inputs_zero_biases [hReferenceIdeal : Cert.ReferenceIdeal.Facts] [hPre_finite_inputs_zero_biases : Cert.Pre_finite_inputs_zero_biases.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs_zero_biases m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.sign_bit.Statement Cert.KernelIdeal.S1x16384 .f32

def algebraic_KernelIdeal_ReferenceIdeal_pre_finite_inputs_zero_biases [hKernelIdeal : Cert.KernelIdeal.Facts] [hReferenceIdeal : Cert.ReferenceIdeal.Facts] [hPre_finite_inputs_zero_biases : Cert.Pre_finite_inputs_zero_biases.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs_zero_biases m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs_zero_biases : Cert.Pre_finite_inputs_zero_biases.Facts),
    quiescent_Kernel (hKernel := hKernel)
    ∧ quiescent_KernelIdeal (hKernelIdeal := hKernelIdeal)
    ∧ quiescent_KernelIdeal_pre_finite_inputs_zero_biases (hKernelIdeal := hKernelIdeal) (hPre_finite_inputs_zero_biases := hPre_finite_inputs_zero_biases)
    ∧ quiescent_ReferenceIdeal (hReferenceIdeal := hReferenceIdeal)
    ∧ quiescent_ReferenceIdeal_pre_finite_inputs_zero_biases (hReferenceIdeal := hReferenceIdeal) (hPre_finite_inputs_zero_biases := hPre_finite_inputs_zero_biases)
    ∧ preserves_Kernel_KernelIdeal
    ∧ algebraic_KernelIdeal_ReferenceIdeal_pre_finite_inputs_zero_biases (hKernelIdeal := hKernelIdeal) (hReferenceIdeal := hReferenceIdeal) (hPre_finite_inputs_zero_biases := hPre_finite_inputs_zero_biases)
-- ==== Pre_finite_inputs_zero_biases.lean ====
abbrev S32 : Shape := ⟨1, ![32]⟩
abbrev S32x512 : Shape := ⟨2, ![32, 512]⟩
abbrev S3x64 : Shape := ⟨2, ![3, 64]⟩
abbrev S64 : Shape := ⟨1, ![64]⟩
abbrev S1x64x64 : Shape := ⟨3, ![1, 64, 64]⟩
abbrev S1x64 : Shape := ⟨2, ![1, 64]⟩
abbrev S64x1 : Shape := ⟨2, ![64, 1]⟩
abbrev S1 : Shape := ⟨1, ![1]⟩
abbrev S_ : Shape := ⟨0, ![]⟩

class Facts : Prop where
  bcast_S_S32x512 : S_.BroadcastsInDim S32x512 (![] : Fin 0 → Fin S32x512.rank)
  reducesTo_S32x512_S_d0_1 : S32x512.ReducesTo [0, 1] S_
  h_S_ : 0 < S_.numel
  bcast_S_S3x64 : S_.BroadcastsInDim S3x64 (![] : Fin 0 → Fin S3x64.rank)
  reducesTo_S3x64_S_d0_1 : S3x64.ReducesTo [0, 1] S_
  bcast_S_S64 : S_.BroadcastsInDim S64 (![] : Fin 0 → Fin S64.rank)
  reducesTo_S64_S_d0 : S64.ReducesTo [0] S_
  bcast_S_S1x64x64 : S_.BroadcastsInDim S1x64x64 (![] : Fin 0 → Fin S1x64x64.rank)
  reducesTo_S1x64x64_S_d0_1_2 : S1x64x64.ReducesTo [0, 1, 2] S_
  bcast_S_S64x1 : S_.BroadcastsInDim S64x1 (![] : Fin 0 → Fin S64x1.rank)
  reducesTo_S64x1_S_d0_1 : S64x1.ReducesTo [0, 1] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1x64 .f32) (main_arg9 : FVec F S1 .f32) (main_v33 : IVec S_ 1) : IVec S_ 1 :=
  let main_cst_12 : FVec F S_ .f32 := constant S_ .f32 0x00000000#32
  let main_v34 : FVec F S1x64 .f32 := broadcastInDim S1x64 ![] bcast_S_S1x64 main_cst_12
  let main_v35 : IVec S1x64 1 := cmpf .oeq main_arg7 main_v34
  let main_c_13 : IVec S_ 1 := constantI S_ 1 1#1
  let main_v36 : IVec S_ 1 := (fun x v => Host.reduce IntOp.andi x v reducesTo_S1x64_S_d0_1 h_S_) main_v35 main_c_13
  let main_v37 : IVec S_ 1 := andi main_v33 main_v36
  let main_cst_14 : FVec F S_ .f32 := constant S_ .f32 0x00000000#32
  let main_v38 : FVec F S1 .f32 := broadcastInDim S1 ![] bcast_S_S1 main_cst_14
  let main_v39 : IVec S1 1 := cmpf .oeq main_arg9 main_v38
  let main_c_15 : IVec S_ 1 := constantI S_ 1 1#1
  let main_v40 : IVec S_ 1 := (fun x v => Host.reduce IntOp.andi x v reducesTo_S1_S_d0 h_S_) main_v39 main_c_15
  let main_v41 : IVec S_ 1 := andi main_v37 main_v40
  main_v41

def fn_part1 {F : FTy → Type} [FloatOps F] (main_arg5 : FVec F S64 .f32) (main_arg6 : FVec F S1x64x64 .f32) (main_arg7 : FVec F S1x64 .f32) (main_arg8 : FVec F S64x1 .f32) (main_arg9 : FVec F S1 .f32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S1x64x64 .f32 := Host.absf main_arg6
  let main_cst_8 : FVec F S_ .f32 := constant S_ .f32 0x7F800000#32
  let main_v25 : FVec F S1x64x64 .f32 := broadcastInDim S1x64x64 ![] bcast_S_S1x64x64 main_cst_8
  let main_v26 : IVec S1x64x64 1 := cmpf .olt main_v24 main_v25
  let main_c_9 : IVec S_ 1 := constantI S_ 1 1#1
  let main_v27 : IVec S_ 1 := (fun x v => Host.reduce IntOp.andi x v reducesTo_S1x64x64_S_d0_1_2 h_S_) main_v26 main_c_9
  let main_v28 : IVec S_ 1 := andi main_v23 main_v27
  let main_v29 : FVec F S64x1 .f32 := Host.absf main_arg8
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  fn_part2 (F := F) main_arg7 main_arg9 main_v33

def fn {F : FTy → Type} [FloatOps F] (main_arg0 : IVec S32 32) (main_arg1 : FVec F S32x512 .f32) (main_arg2 : FVec F S32x512 .f32) (main_arg3 : FVec F S32x512 .f32) (main_arg4 : FVec F S3x64 .f32) (main_arg5 : FVec F S64 .f32) (main_arg6 : FVec F S1x64x64 .f32) (main_arg7 : FVec F S1x64 .f32) (main_arg8 : FVec F S64x1 .f32) (main_arg9 : FVec F S1 .f32) (main_arg10 : IVec S_ 32) : IVec S_ 1 :=
  let main_v0 : FVec F S32x512 .f32 := Host.absf main_arg1
  let main_cst : FVec F S_ .f32 := constant S_ .f32 0x7F800000#32
  let main_v1 : FVec F S32x512 .f32 := broadcastInDim S32x512 ![] bcast_S_S32x512 main_cst
  let main_v2 : IVec S32x512 1 := cmpf .olt main_v0 main_v1
  let main_c : IVec S_ 1 := constantI S_ 1 1#1
  let main_v3 : IVec S_ 1 := (fun x v => Host.reduce IntOp.andi x v reducesTo_S32x512_S_d0_1 h_S_) main_v2 main_c
  let main_v4 : FVec F S32x512 .f32 := Host.absf main_arg2
  let main_cst_0 : FVec F S_ .f32 := constant S_ .f32 0x7F800000#32
  let main_v5 : FVec F S32x512 .f32 := broadcastInDim S32x512 ![] bcast_S_S32x512 main_cst_0
  let main_v6 : IVec S32x512 1 := cmpf .olt main_v4 main_v5
  let main_c_1 : IVec S_ 1 := constantI S_ 1 1#1
  let main_v7 : IVec S_ 1 := (fun x v => Host.reduce IntOp.andi x v reducesTo_S32x512_S_d0_1 h_S_) main_v6 main_c_1
  let main_v8 : IVec S_ 1 := andi main_v3 main_v7
  let main_v9 : FVec F S32x512 .f32 := Host.absf main_arg3
  let main_cst_2 : FVec F S_ .f32 := constant S_ .f32 0x7F800000#32
  let main_v10 : FVec F S32x512 .f32 := broadcastInDim S32x512 ![] bcast_S_S32x512 main_cst_2
  let main_v11 : IVec S32x512 1 := cmpf .olt main_v9 main_v10
  let main_c_3 : IVec S_ 1 := constantI S_ 1 1#1
  let main_v12 : IVec S_ 1 := (fun x v => Host.reduce IntOp.andi x v reducesTo_S32x512_S_d0_1 h_S_) main_v11 main_c_3
  let main_v13 : IVec S_ 1 := andi main_v8 main_v12
  let main_v14 : FVec F S3x64 .f32 := Host.absf main_arg4
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg5 main_arg6 main_arg7 main_arg8 main_arg9 main_v13 main_v16
-- ==== Kernel.lean ====
abbrev S32 : Shape := ⟨1, ![32]⟩
abbrev S32x512 : Shape := ⟨2, ![32, 512]⟩
abbrev S3x64 : Shape := ⟨2, ![3, 64]⟩
abbrev S64 : Shape := ⟨1, ![64]⟩
abbrev S1x64x64 : Shape := ⟨3, ![1, 64, 64]⟩
abbrev S1x64 : Shape := ⟨2, ![1, 64]⟩
abbrev S64x1 : Shape := ⟨2, ![64, 1]⟩
abbrev S1 : Shape := ⟨1, ![1]⟩
abbrev S_ : Shape := ⟨0, ![]⟩
abbrev S16384 : Shape := ⟨1, ![16384]⟩
abbrev S1x16384 : Shape := ⟨2, ![1, 16384]⟩
abbrev S2x16384 : Shape := ⟨2, ![2, 16384]⟩
abbrev S32x1x512 : Shape := ⟨3, ![32, 1, 512]⟩
abbrev S32x3x512 : Shape := ⟨3, ![32, 3, 512]⟩
abbrev S64x3 : Shape := ⟨2, ![64, 3]⟩
abbrev S1x1 : Shape := ⟨2, ![1, 1]⟩
abbrev S32x512x1 : Shape := ⟨3, ![32, 512, 1]⟩
abbrev S128x128x128 : Shape := ⟨3, ![128, 128, 128]⟩
abbrev S128x16384 : Shape := ⟨2, ![128, 16384]⟩
abbrev S4x3x512 : Shape := ⟨3, ![4, 3, 512]⟩
abbrev S4x512x1 : Shape := ⟨3, ![4, 512, 1]⟩
abbrev S1x2 : Shape := ⟨2, ![1, 2]⟩
abbrev S1x1x512 : Shape := ⟨3, ![1, 1, 512]⟩
abbrev S1x512 : Shape := ⟨2, ![1, 512]⟩
abbrev S1x512x1 : Shape := ⟨3, ![1, 512, 1]⟩
abbrev S512x1 : Shape := ⟨2, ![512, 1]⟩
abbrev S512x512 : Shape := ⟨2, ![512, 512]⟩
abbrev S512 : Shape := ⟨1, ![512]⟩
abbrev S512x128 : Shape := ⟨2, ![512, 128]⟩
abbrev S1x3x512 : Shape := ⟨3, ![1, 3, 512]⟩
abbrev S3x512 : Shape := ⟨2, ![3, 512]⟩
abbrev S3x128 : Shape := ⟨2, ![3, 128]⟩
abbrev S3x16384 : Shape := ⟨2, ![3, 16384]⟩
abbrev S64x16384 : Shape := ⟨2, ![64, 16384]⟩
abbrev S64x64 : Shape := ⟨2, ![64, 64]⟩
abbrev S1x1x16384 : Shape := ⟨3, ![1, 1, 16384]⟩
abbrev S1x1x1 : Shape := ⟨3, ![1, 1, 1]⟩

abbrev nBuf : Space → Nat
  | .hbm => 53
  | .vmem => 10
  | .smem => 3
  | _ => 0

abbrev bufTy : (tb : Table) → Fin (tcTables nBuf tb) → BufTy
  | .hbm, ⟨0, _⟩ => ⟨S32, .i32⟩
  | .hbm, ⟨1, _⟩ => ⟨S32x512, .f32⟩
  | .hbm, ⟨2, _⟩ => ⟨S32x512, .f32⟩
  | .hbm, ⟨3, _⟩ => ⟨S32x512, .f32⟩
  | .hbm, ⟨4, _⟩ => ⟨S3x64, .f32⟩
  | .hbm, ⟨5, _⟩ => ⟨S64, .f32⟩
  | .hbm, ⟨6, _⟩ => ⟨S1x64x64, .f32⟩
  | .hbm, ⟨7, _⟩ => ⟨S1x64, .f32⟩
  | .hbm, ⟨8, _⟩ => ⟨S64x1, .f32⟩
  | .hbm, ⟨9, _⟩ => ⟨S1, .f32⟩
  | .hbm, ⟨10, _⟩ => ⟨S_, .i32⟩
  | .hbm, ⟨11, _⟩ => ⟨S16384, .f32⟩
  | .hbm, ⟨12, _⟩ => ⟨S1x16384, .f32⟩
  | .hbm, ⟨13, _⟩ => ⟨S2x16384, .f32⟩
  | .hbm, ⟨14, _⟩ => ⟨S32x1x512, .f32⟩
  | .hbm, ⟨15, _⟩ => ⟨S32x1x512, .f32⟩
  | .hbm, ⟨16, _⟩ => ⟨S32x1x512, .f32⟩
  | .hbm, ⟨17, _⟩ => ⟨S32x3x512, .f32⟩
  | .hbm, ⟨18, _⟩ => ⟨S_, .f32⟩
  | .hbm, ⟨19, _⟩ => ⟨S_, .f32⟩
  | .hbm, ⟨20, _⟩ => ⟨S_, .bf16⟩
  | .hbm, ⟨21, _⟩ => ⟨S_, .f32⟩
  | .hbm, ⟨22, _⟩ => ⟨S1x64, .f32⟩
  | .hbm, ⟨23, _⟩ => ⟨S64, .f32⟩
  | .hbm, ⟨24, _⟩ => ⟨S64, .bf16⟩
  | .hbm, ⟨25, _⟩ => ⟨S64, .f32⟩
  | .hbm, ⟨26, _⟩ => ⟨S64, .f32⟩
  | .hbm, ⟨27, _⟩ => ⟨S64, .f32⟩
  | .hbm, ⟨28, _⟩ => ⟨S64, .f32⟩
  | .hbm, ⟨29, _⟩ => ⟨S64x1, .f32⟩
  | .hbm, ⟨30, _⟩ => ⟨S64x1, .bf16⟩
  | .hbm, ⟨31, _⟩ => ⟨S64x1, .f32⟩
  | .hbm, ⟨32, _⟩ => ⟨S1x64, .f32⟩
  | .hbm, ⟨33, _⟩ => ⟨S64, .f32⟩
  | .hbm, ⟨34, _⟩ => ⟨S64x1, .f32⟩
  | .hbm, ⟨35, _⟩ => ⟨S64x1, .f32⟩
  | .hbm, ⟨36, _⟩ => ⟨S64x3, .f32⟩
  | .hbm, ⟨37, _⟩ => ⟨S1x64x64, .f32⟩
  | .hbm, ⟨38, _⟩ => ⟨S64, .f32⟩
  | .hbm, ⟨39, _⟩ => ⟨S1x64, .f32⟩
  | .hbm, ⟨40, _⟩ => ⟨S_, .f32⟩
  | .hbm, ⟨41, _⟩ => ⟨S1x1, .f32⟩
  | .hbm, ⟨42, _⟩ => ⟨S32x512x1, .f32⟩
  | .hbm, ⟨43, _⟩ => ⟨S128x128x128, .i32⟩
  | .hbm, ⟨44, _⟩ => ⟨S128x128x128, .i32⟩
  | .hbm, ⟨45, _⟩ => ⟨S128x128x128, .i32⟩
  | .hbm, ⟨46, _⟩ => ⟨S128x128x128, .i1⟩
  | .hbm, ⟨47, _⟩ => ⟨S128x128x128, .f32⟩
  | .hbm, ⟨48, _⟩ => ⟨S128x128x128, .i1⟩
  | .hbm, ⟨49, _⟩ => ⟨S128x128x128, .f32⟩
  | .hbm, ⟨50, _⟩ => ⟨S128x128x128, .f32⟩
  | .hbm, ⟨51, _⟩ => ⟨S128x16384, .f32⟩
  | .hbm, ⟨52, _⟩ => ⟨S1x1, .f32⟩
  | .local _ .vmem, ⟨0, _⟩ => ⟨S4x3x512, .f32⟩
  | .local _ .vmem, ⟨1, _⟩ => ⟨S4x3x512, .f32⟩
  | .local _ .vmem, ⟨2, _⟩ => ⟨S4x512x1, .f32⟩
  | .local _ .vmem, ⟨3, _⟩ => ⟨S4x512x1, .f32⟩
  | .local _ .vmem, ⟨4, _⟩ => ⟨S128x16384, .f32⟩
  | .local _ .vmem, ⟨5, _⟩ => ⟨S1x16384, .f32⟩
  | .local _ .vmem, ⟨6, _⟩ => ⟨S2x16384, .f32⟩
  | .local _ .vmem, ⟨7, _⟩ => ⟨S64x3, .f32⟩
  | .local _ .vmem, ⟨8, _⟩ => ⟨S1x64x64, .f32⟩
  | .local _ .vmem, ⟨9, _⟩ => ⟨S1x64, .f32⟩
  | .local _ .smem, ⟨0, _⟩ => ⟨S1x1, .f32⟩
  | .local _ .smem, ⟨1, _⟩ => ⟨S1x1, .f32⟩
  | .local _ .smem, ⟨2, _⟩ => ⟨S1x2, .f32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg0_0 : Ref sig .tc := ⟨.smem, 0, rfl⟩
abbrev cc0_stg9_0 : Ref sig .tc := ⟨.smem, 1, rfl⟩
abbrev cc0_scratch0 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11

abbrev nD : Nat := 1
abbrev τ : Topo := Topo.v7x

variable {F : FTy → Type} [BitOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v465 : BitVec 1 := Scalar.cmpi .eq arg0 c7_i32
  let v466 : BitVec 32 := Scalar.extui v465
  let c0_i32_184 : BitVec 32 := 0#32
  let v467 : BitVec 1 := Scalar.cmpi .ne v466 c0_i32_184
  v467

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4x3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x16384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x16384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .smem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== KernelIdeal.lean ====
variable {F : FTy → Type} [FloatOps F]
-- ==== ReferenceIdeal.lean ====
abbrev S32 : Shape := ⟨1, ![32]⟩
abbrev S32x512 : Shape := ⟨2, ![32, 512]⟩
abbrev S3x64 : Shape := ⟨2, ![3, 64]⟩
abbrev S64 : Shape := ⟨1, ![64]⟩
abbrev S1x64x64 : Shape := ⟨3, ![1, 64, 64]⟩
abbrev S1x64 : Shape := ⟨2, ![1, 64]⟩
abbrev S64x1 : Shape := ⟨2, ![64, 1]⟩
abbrev S1 : Shape := ⟨1, ![1]⟩
abbrev S_ : Shape := ⟨0, ![]⟩
abbrev S8128 : Shape := ⟨1, ![8128]⟩
abbrev S32x512x1 : Shape := ⟨3, ![32, 512, 1]⟩
abbrev S32x1x512 : Shape := ⟨3, ![32, 1, 512]⟩
abbrev S32x512x512 : Shape := ⟨3, ![32, 512, 512]⟩
abbrev S32x1 : Shape := ⟨2, ![32, 1]⟩
abbrev S32x128 : Shape := ⟨2, ![32, 128]⟩
abbrev S32x128x1 : Shape := ⟨3, ![32, 128, 1]⟩
abbrev S1x1x1 : Shape := ⟨3, ![1, 1, 1]⟩
abbrev S32x1x128 : Shape := ⟨3, ![32, 1, 128]⟩
abbrev S32x128x128 : Shape := ⟨3, ![32, 128, 128]⟩
abbrev S32x1x1 : Shape := ⟨3, ![32, 1, 1]⟩
abbrev S32x128x128x1 : Shape := ⟨4, ![32, 128, 128, 1]⟩
abbrev S32x128x128x3 : Shape := ⟨4, ![32, 128, 128, 3]⟩
abbrev S32x128x128x64 : Shape := ⟨4, ![32, 128, 128, 64]⟩
abbrev S1x1x1x64 : Shape := ⟨4, ![1, 1, 1, 64]⟩
abbrev S64x64 : Shape := ⟨2, ![64, 64]⟩
abbrev S1x1x1x1 : Shape := ⟨4, ![1, 1, 1, 1]⟩
abbrev S8128x1 : Shape := ⟨2, ![8128, 1]⟩
abbrev S8128x2 : Shape := ⟨2, ![8128, 2]⟩
abbrev S32x8128 : Shape := ⟨2, ![32, 8128]⟩
abbrev S1x1 : Shape := ⟨2, ![1, 1]⟩

abbrev nBuf : Space → Nat
  | .hbm => 305
  | .vmem => 0
  | .smem => 0
  | _ => 0

abbrev hbmTy0_0 (i : Nat) : BufTy := match i % 128 with
  | 0 => ⟨S32, .i32⟩
  | 1 => ⟨S32x512, .f32⟩
  | 2 => ⟨S32x512, .f32⟩
  | 3 => ⟨S32x512, .f32⟩
  | 4 => ⟨S3x64, .f32⟩
  | 5 => ⟨S64, .f32⟩
  | 6 => ⟨S1x64x64, .f32⟩
  | 7 => ⟨S1x64, .f32⟩
  | 8 => ⟨S64x1, .f32⟩
  | 9 => ⟨S1, .f32⟩
  | 10 => ⟨S_, .i32⟩
  | 11 => ⟨S8128, .i32⟩
  | 12 => ⟨S8128, .i1⟩
  | 13 => ⟨S8128, .i32⟩
  | 14 => ⟨S8128, .i1⟩
  | 15 => ⟨S8128, .i1⟩
  | 16 => ⟨S8128, .i1⟩
  | 17 => ⟨S8128, .i1⟩
  | 18 => ⟨S8128, .i1⟩
  | 19 => ⟨S32x512, .f32⟩
  | 20 => ⟨S32x512, .i32⟩
  | 21 => ⟨S32x512, .f32⟩
  | 22 => ⟨S32x512, .i32⟩
  | 23 => ⟨S32x512, .i32⟩
  | 24 => ⟨S32x512, .i32⟩
  | 25 => ⟨S32x512, .i32⟩
  | 26 => ⟨S32x512, .f32⟩
  | 27 => ⟨S32x512x1, .f32⟩
  | 28 => ⟨S32x1x512, .f32⟩
  | 29 => ⟨S32x512x512, .f32⟩
  | 30 => ⟨S32x512x512, .f32⟩
  | 31 => ⟨S32x512x512, .f32⟩
  | 32 => ⟨S_, .i32⟩
  | 33 => ⟨S_, .f32⟩
  | 34 => ⟨S32x512, .f32⟩
  | 35 => ⟨S32x1x512, .f32⟩
  | 36 => ⟨S_, .f32⟩
  | 37 => ⟨S32x1x512, .f32⟩
  | 38 => ⟨S32x1x512, .f32⟩
  | 39 => ⟨S32x512x512, .f32⟩
  | 40 => ⟨S32x512x512, .f32⟩
  | 41 => ⟨S32x512x512, .f32⟩
  | 42 => ⟨S_, .f32⟩
  | 43 => ⟨S_, .f32⟩
  | 44 => ⟨S_, .f32⟩
  | 45 => ⟨S_, .f32⟩
  | 46 => ⟨S32x512, .f32⟩
  | 47 => ⟨S32x512, .f32⟩
  | 48 => ⟨S32x512, .f32⟩
  | 49 => ⟨S_, .f32⟩
  | 50 => ⟨S_, .i1⟩
  | 51 => ⟨S_, .f32⟩
  | 52 => ⟨S_, .f32⟩
  | 53 => ⟨S32x512, .f32⟩
  | 54 => ⟨S32x512, .f32⟩
  | 55 => ⟨S32x512, .f32⟩
  | 56 => ⟨S_, .i32⟩
  | 57 => ⟨S_, .f32⟩
  | 58 => ⟨S32, .f32⟩
  | 59 => ⟨S32x1, .f32⟩
  | 60 => ⟨S_, .f32⟩
  | 61 => ⟨S32x1, .f32⟩
  | 62 => ⟨S32x1, .f32⟩
  | 63 => ⟨S32x512, .f32⟩
  | 64 => ⟨S32x512, .f32⟩
  | 65 => ⟨S32x512, .f32⟩
  | 66 => ⟨S_, .f32⟩
  | 67 => ⟨S_, .f32⟩
  | 68 => ⟨S_, .f32⟩
  | 69 => ⟨S_, .f32⟩
  | 70 => ⟨S32, .f32⟩
  | 71 => ⟨S32, .f32⟩
  | 72 => ⟨S32, .f32⟩
  | 73 => ⟨S_, .f32⟩
  | 74 => ⟨S_, .i1⟩
  | 75 => ⟨S_, .f32⟩
  | 76 => ⟨S_, .f32⟩
  | 77 => ⟨S32, .f32⟩
  | 78 => ⟨S32, .f32⟩
  | 79 => ⟨S32, .f32⟩
  | 80 => ⟨S32x128, .i32⟩
  | 81 => ⟨S_, .i32⟩
  | 82 => ⟨S32x128, .i32⟩
  | 83 => ⟨S32x128, .i1⟩
  | 84 => ⟨S_, .i32⟩
  | 85 => ⟨S32x128, .i32⟩
  | 86 => ⟨S32x128, .i32⟩
  | 87 => ⟨S32x128, .i32⟩
  | 88 => ⟨S32x128x1, .i32⟩
  | 89 => ⟨S1, .i32⟩
  | 90 => ⟨S_, .i32⟩
  | 91 => ⟨S32x128x1, .i32⟩
  | 92 => ⟨S32x128x1, .i1⟩
  | 93 => ⟨S1x1x1, .i32⟩
  | 94 => ⟨S32x128x1, .i32⟩
  | 95 => ⟨S32x128x1, .i1⟩
  | 96 => ⟨S32x128x1, .i1⟩
  | 97 => ⟨S_, .i1⟩
  | 98 => ⟨S32x128, .i1⟩
  | 99 => ⟨S32x128, .f32⟩
  | 100 => ⟨S_, .f32⟩
  | 101 => ⟨S32x128, .f32⟩
  | 102 => ⟨S32x128, .f32⟩
  | 103 => ⟨S_, .i32⟩
  | 104 => ⟨S32x128, .i32⟩
  | 105 => ⟨S32x128, .i1⟩
  | 106 => ⟨S_, .i32⟩
  | 107 => ⟨S32x128, .i32⟩
  | 108 => ⟨S32x128, .i32⟩
  | 109 => ⟨S32x128, .i32⟩
  | 110 => ⟨S32x128x1, .i32⟩
  | 111 => ⟨S1, .i32⟩
  | 112 => ⟨S_, .i32⟩
  | 113 => ⟨S32x128x1, .i32⟩
  | 114 => ⟨S32x128x1, .i1⟩
  | 115 => ⟨S1x1x1, .i32⟩
  | 116 => ⟨S32x128x1, .i32⟩
  | 117 => ⟨S32x128x1, .i1⟩
  | 118 => ⟨S32x128x1, .i1⟩
  | 119 => ⟨S_, .i1⟩
  | 120 => ⟨S32x128, .i1⟩
  | 121 => ⟨S32x128, .f32⟩
  | 122 => ⟨S_, .f32⟩
  | 123 => ⟨S32x128, .f32⟩
  | 124 => ⟨S32x128, .f32⟩
  | 125 => ⟨S32x128x1, .f32⟩
  | 126 => ⟨S32x1x128, .f32⟩
  | 127 => ⟨S32x128x128, .f32⟩
  | _ => ⟨S32, .i32⟩

abbrev hbmTy0_1 (i : Nat) : BufTy := match i % 128 with
  | 0 => ⟨S32x128x128, .f32⟩
  | 1 => ⟨S32x128x128, .f32⟩
  | 2 => ⟨S32x128x1, .f32⟩
  | 3 => ⟨S32x1x128, .f32⟩
  | 4 => ⟨S32x128x128, .f32⟩
  | 5 => ⟨S32x128x128, .f32⟩
  | 6 => ⟨S32x128x128, .f32⟩
  | 7 => ⟨S32x1x1, .f32⟩
  | 8 => ⟨S32x128x128, .f32⟩
  | 9 => ⟨S32x128x128x1, .f32⟩
  | 10 => ⟨S32x128x128x1, .f32⟩
  | 11 => ⟨S32x128x128x1, .f32⟩
  | 12 => ⟨S32x128x128x3, .f32⟩
  | 13 => ⟨S32x128x128x64, .f32⟩
  | 14 => ⟨S1x1x1x64, .f32⟩
  | 15 => ⟨S32x128x128x64, .f32⟩
  | 16 => ⟨S32x128x128x64, .f32⟩
  | 17 => ⟨S_, .f32⟩
  | 18 => ⟨S32x128x128x64, .f32⟩
  | 19 => ⟨S32x128x128x64, .f32⟩
  | 20 => ⟨S64x64, .f32⟩
  | 21 => ⟨S32x128x128x64, .f32⟩
  | 22 => ⟨S64, .f32⟩
  | 23 => ⟨S1x1x1x64, .f32⟩
  | 24 => ⟨S32x128x128x64, .f32⟩
  | 25 => ⟨S32x128x128x64, .f32⟩
  | 26 => ⟨S_, .f32⟩
  | 27 => ⟨S32x128x128x64, .f32⟩
  | 28 => ⟨S32x128x128x64, .f32⟩
  | 29 => ⟨S32x128x128x1, .f32⟩
  | 30 => ⟨S1x1x1x1, .f32⟩
  | 31 => ⟨S32x128x128x1, .f32⟩
  | 32 => ⟨S32x128x128x1, .f32⟩
  | 33 => ⟨S32x128x128, .f32⟩
  | 34 => ⟨S_, .f32⟩
  | 35 => ⟨S32x128x128, .f32⟩
  | 36 => ⟨S32x128x128, .f32⟩
  | 37 => ⟨S32x128x128, .f32⟩
  | 38 => ⟨S32x128x128, .f32⟩
  | 39 => ⟨S32x128x128, .i1⟩
  | 40 => ⟨S32x128x128, .f32⟩
  | 41 => ⟨S32x128x128, .f32⟩
  | 42 => ⟨S32x128x128, .f32⟩
  | 43 => ⟨S32x128x128, .f32⟩
  | 44 => ⟨S32x128x128, .f32⟩
  | 45 => ⟨S32x128x128, .f32⟩
  | 46 => ⟨S32x128x128, .f32⟩
  | 47 => ⟨S32x128x128, .f32⟩
  | 48 => ⟨S_, .i32⟩
  | 49 => ⟨S32x128, .i32⟩
  | 50 => ⟨S32x128, .i1⟩
  | 51 => ⟨S_, .i32⟩
  | 52 => ⟨S32x128, .i32⟩
  | 53 => ⟨S32x128, .i32⟩
  | 54 => ⟨S32x128, .i32⟩
  | 55 => ⟨S32x128x1, .i32⟩
  | 56 => ⟨S1, .i32⟩
  | 57 => ⟨S_, .i32⟩
  | 58 => ⟨S32x128x1, .i32⟩
  | 59 => ⟨S32x128x1, .i1⟩
  | 60 => ⟨S1x1x1, .i32⟩
  | 61 => ⟨S32x128x1, .i32⟩
  | 62 => ⟨S32x128x1, .i1⟩
  | 63 => ⟨S32x128x1, .i1⟩
  | 64 => ⟨S_, .i1⟩
  | 65 => ⟨S32x128, .i1⟩
  | 66 => ⟨S32x128, .f32⟩
  | 67 => ⟨S_, .f32⟩
  | 68 => ⟨S32x128, .f32⟩
  | 69 => ⟨S32x128, .f32⟩
  | 70 => ⟨S_, .i32⟩
  | 71 => ⟨S32x128, .i32⟩
  | 72 => ⟨S32x128, .i1⟩
  | 73 => ⟨S_, .i32⟩
  | 74 => ⟨S32x128, .i32⟩
  | 75 => ⟨S32x128, .i32⟩
  | 76 => ⟨S32x128, .i32⟩
  | 77 => ⟨S32x128x1, .i32⟩
  | 78 => ⟨S1, .i32⟩
  | 79 => ⟨S_, .i32⟩
  | 80 => ⟨S32x128x1, .i32⟩
  | 81 => ⟨S32x128x1, .i1⟩
  | 82 => ⟨S1x1x1, .i32⟩
  | 83 => ⟨S32x128x1, .i32⟩
  | 84 => ⟨S32x128x1, .i1⟩
  | 85 => ⟨S32x128x1, .i1⟩
  | 86 => ⟨S_, .i1⟩
  | 87 => ⟨S32x128, .i1⟩
  | 88 => ⟨S32x128, .f32⟩
  | 89 => ⟨S_, .f32⟩
  | 90 => ⟨S32x128, .f32⟩
  | 91 => ⟨S32x128, .f32⟩
  | 92 => ⟨S32x128x128, .f32⟩
  | 93 => ⟨S_, .f32⟩
  | 94 => ⟨S32, .f32⟩
  | 95 => ⟨S32, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S32x128x1, .f32⟩
  | 103 => ⟨S32x1x128, .f32⟩
  | 104 => ⟨S32x128x128, .f32⟩
  | 105 => ⟨S32x128x128, .f32⟩
  | 106 => ⟨S32x128x128, .f32⟩
  | 107 => ⟨S_, .i32⟩
  | 108 => ⟨S8128, .i32⟩
  | 109 => ⟨S8128, .i32⟩
  | 110 => ⟨S8128, .i32⟩
  | 111 => ⟨S_, .i32⟩
  | 112 => ⟨S8128, .i32⟩
  | 113 => ⟨S8128, .i32⟩
  | 114 => ⟨S8128, .i32⟩
  | 115 => ⟨S8128x1, .i32⟩
  | 116 => ⟨S8128x1, .i32⟩
  | 117 => ⟨S8128x2, .i32⟩
  | 118 => ⟨S32x8128, .f32⟩
  | 119 => ⟨S32x128x1, .f32⟩
  | 120 => ⟨S32x1x128, .f32⟩
  | 121 => ⟨S32x128x128, .f32⟩
  | 122 => ⟨S32x128x128, .f32⟩
  | 123 => ⟨S32x128x128, .f32⟩
  | 124 => ⟨S_, .i32⟩
  | 125 => ⟨S8128, .i32⟩
  | 126 => ⟨S8128, .i32⟩
  | 127 => ⟨S8128, .i32⟩
  | _ => ⟨S32, .i32⟩

abbrev hbmTy0_2 (i : Nat) : BufTy := match i % 128 with
  | 0 => ⟨S_, .i32⟩
  | 1 => ⟨S8128, .i32⟩
  | 2 => ⟨S8128, .i32⟩
  | 3 => ⟨S8128, .i32⟩
  | 4 => ⟨S8128x1, .i32⟩
  | 5 => ⟨S8128x1, .i32⟩
  | 6 => ⟨S8128x2, .i32⟩
  | 7 => ⟨S32x8128, .f32⟩
  | 8 => ⟨S_, .i32⟩
  | 9 => ⟨S8128, .i32⟩
  | 10 => ⟨S8128, .i32⟩
  | 11 => ⟨S8128, .i32⟩
  | 12 => ⟨S_, .i32⟩
  | 13 => ⟨S8128, .i32⟩
  | 14 => ⟨S8128, .i32⟩
  | 15 => ⟨S8128, .i32⟩
  | 16 => ⟨S8128x1, .i32⟩
  | 17 => ⟨S8128x1, .i32⟩
  | 18 => ⟨S8128x2, .i32⟩
  | 19 => ⟨S32x8128, .f32⟩
  | 20 => ⟨S32x8128, .f32⟩
  | 21 => ⟨S_, .f32⟩
  | 22 => ⟨S32x8128, .f32⟩
  | 23 => ⟨S32x8128, .f32⟩
  | 24 => ⟨S_, .f32⟩
  | 25 => ⟨S32x8128, .f32⟩
  | 26 => ⟨S32x8128, .f32⟩
  | 27 => ⟨S_, .f32⟩
  | 28 => ⟨S32x8128, .f32⟩
  | 29 => ⟨S32x8128, .f32⟩
  | 30 => ⟨S_, .f32⟩
  | 31 => ⟨S32x8128, .f32⟩
  | 32 => ⟨S32x8128, .f32⟩
  | 33 => ⟨S32x8128, .f32⟩
  | 34 => ⟨S32x8128, .f32⟩
  | 35 => ⟨S32x8128, .f32⟩
  | 36 => ⟨S32x8128, .f32⟩
  | 37 => ⟨S32x8128, .f32⟩
  | 38 => ⟨S32x8128, .f32⟩
  | 39 => ⟨S32x8128, .f32⟩
  | 40 => ⟨S32x8128, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S1x1, .f32⟩
  | _ => ⟨S32, .i32⟩

abbrev hbmTy (i : Nat) : BufTy := match i / 128 with
  | 0 => hbmTy0_0 i
  | 1 => hbmTy0_1 i
  | 2 => hbmTy0_2 i
  | _ => ⟨S32, .i32⟩

abbrev bufTy : (tb : Table) → Fin (tcTables nBuf tb) → BufTy
  | .hbm, ⟨i, _⟩ => hbmTy i
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_c_0 : Ref sig .tc := ⟨.hbm, 12, rfl⟩
abbrev main_c_1 : Ref sig .tc := ⟨.hbm, 13, rfl⟩
abbrev main_c_2 : Ref sig .tc := ⟨.hbm, 14, rfl⟩
abbrev main_c_3 : Ref sig .tc := ⟨.hbm, 15, rfl⟩
abbrev main_c_4 : Ref sig .tc := ⟨.hbm, 16, rfl⟩
abbrev main_c_5 : Ref sig .tc := ⟨.hbm, 17, rfl⟩
abbrev main_c_6 : Ref sig .tc := ⟨.hbm, 18, rfl⟩
abbrev main_v0 : Ref sig .tc := ⟨.hbm, 19, rfl⟩
abbrev main_call0_v0 : Ref sig .tc := ⟨.hbm, 20, rfl⟩
abbrev main_call0_v1_0 : Ref sig .tc := ⟨.hbm, 21, rfl⟩
abbrev main_v1 : Ref sig .tc := ⟨.hbm, 22, rfl⟩
abbrev main_call1_v0 : Ref sig .tc := ⟨.hbm, 23, rfl⟩
abbrev main_call1_v1_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_c_7 : Ref sig .tc := ⟨.hbm, 32, rfl⟩
abbrev main_call2_call0_cst : Ref sig .tc := ⟨.hbm, 33, rfl⟩
abbrev main_call2_call0_v0 : Ref sig .tc := ⟨.hbm, 34, rfl⟩
abbrev main_call2_call0_v1 : Ref sig .tc := ⟨.hbm, 35, rfl⟩
abbrev main_call2_call0_cst_0 : Ref sig .tc := ⟨.hbm, 36, rfl⟩
abbrev main_call2_call0_v2 : Ref sig .tc := ⟨.hbm, 37, rfl⟩
abbrev main_call2_call0_v3 : Ref sig .tc := ⟨.hbm, 38, rfl⟩
abbrev main_call2_call0_v4 : Ref sig .tc := ⟨.hbm, 39, rfl⟩
abbrev main_call2_call0_v5 : Ref sig .tc := ⟨.hbm, 40, rfl⟩
abbrev main_call2_call0_v6 : Ref sig .tc := ⟨.hbm, 41, rfl⟩
abbrev main_call2_call0_v7 : Ref sig .tc := ⟨.hbm, 42, rfl⟩
abbrev main_call2_call0_cst_1 : Ref sig .tc := ⟨.hbm, 43, rfl⟩
abbrev main_call2_call0_v8 : Ref sig .tc := ⟨.hbm, 44, rfl⟩
abbrev main_call2_call0_cst_2 : Ref sig .tc := ⟨.hbm, 45, rfl⟩
abbrev main_call2_call0_v9 : Ref sig .tc := ⟨.hbm, 46, rfl⟩
abbrev main_call2_call0_v10 : Ref sig .tc := ⟨.hbm, 47, rfl⟩
abbrev main_call2_call0_v11 : Ref sig .tc := ⟨.hbm, 48, rfl⟩
abbrev main_call2_call0_cst_3 : Ref sig .tc := ⟨.hbm, 49, rfl⟩
abbrev main_call2_call0_v12 : Ref sig .tc := ⟨.hbm, 50, rfl⟩
abbrev main_call2_call0_cst_4 : Ref sig .tc := ⟨.hbm, 51, rfl⟩
abbrev main_call2_call0_call0_v0 : Ref sig .tc := ⟨.hbm, 52, rfl⟩
abbrev main_call2_call0_call0_v1 : Ref sig .tc := ⟨.hbm, 53, rfl⟩
abbrev main_call2_v0 : Ref sig .tc := ⟨.hbm, 54, rfl⟩
abbrev main_v9 : Ref sig .tc := ⟨.hbm, 55, rfl⟩
abbrev main_c_8 : Ref sig .tc := ⟨.hbm, 56, rfl⟩
abbrev main_call3_call0_cst : Ref sig .tc := ⟨.hbm, 57, rfl⟩
abbrev main_call3_call0_v0 : Ref sig .tc := ⟨.hbm, 58, rfl⟩
abbrev main_call3_call0_v1 : Ref sig .tc := ⟨.hbm, 59, rfl⟩
abbrev main_call3_call0_cst_0 : Ref sig .tc := ⟨.hbm, 60, rfl⟩
abbrev main_call3_call0_v2 : Ref sig .tc := ⟨.hbm, 61, rfl⟩
abbrev main_call3_call0_v3 : Ref sig .tc := ⟨.hbm, 62, rfl⟩
abbrev main_call3_call0_v4 : Ref sig .tc := ⟨.hbm, 63, rfl⟩
abbrev main_call3_call0_v5 : Ref sig .tc := ⟨.hbm, 64, rfl⟩
abbrev main_call3_call0_v6 : Ref sig .tc := ⟨.hbm, 65, rfl⟩
abbrev main_call3_call0_v7 : Ref sig .tc := ⟨.hbm, 66, rfl⟩
abbrev main_call3_call0_cst_1 : Ref sig .tc := ⟨.hbm, 67, rfl⟩
abbrev main_call3_call0_v8 : Ref sig .tc := ⟨.hbm, 68, rfl⟩
abbrev main_call3_call0_cst_2 : Ref sig .tc := ⟨.hbm, 69, rfl⟩
abbrev main_call3_call0_v9 : Ref sig .tc := ⟨.hbm, 70, rfl⟩
abbrev main_call3_call0_v10 : Ref sig .tc := ⟨.hbm, 71, rfl⟩
abbrev main_call3_call0_v11 : Ref sig .tc := ⟨.hbm, 72, rfl⟩
abbrev main_call3_call0_cst_3 : Ref sig .tc := ⟨.hbm, 73, rfl⟩
abbrev main_call3_call0_v12 : Ref sig .tc := ⟨.hbm, 74, rfl⟩
abbrev main_call3_call0_cst_4 : Ref sig .tc := ⟨.hbm, 75, rfl⟩
abbrev main_call3_call0_call0_v0 : Ref sig .tc := ⟨.hbm, 76, rfl⟩
abbrev main_call3_call0_call0_v1 : Ref sig .tc := ⟨.hbm, 77, rfl⟩
abbrev main_call3_v0 : Ref sig .tc := ⟨.hbm, 78, rfl⟩
abbrev main_v10 : Ref sig .tc := ⟨.hbm, 79, rfl⟩
abbrev main_v11 : Ref sig .tc := ⟨.hbm, 80, rfl⟩
abbrev main_call4_c : Ref sig .tc := ⟨.hbm, 81, rfl⟩
abbrev main_call4_v0 : Ref sig .tc := ⟨.hbm, 82, rfl⟩
abbrev main_call4_v1 : Ref sig .tc := ⟨.hbm, 83, rfl⟩
abbrev main_call4_c_0 : Ref sig .tc := ⟨.hbm, 84, rfl⟩
abbrev main_call4_v2 : Ref sig .tc := ⟨.hbm, 85, rfl⟩
abbrev main_call4_v3 : Ref sig .tc := ⟨.hbm, 86, rfl⟩
abbrev main_call4_v4 : Ref sig .tc := ⟨.hbm, 87, rfl⟩
abbrev main_call4_v5 : Ref sig .tc := ⟨.hbm, 88, rfl⟩
abbrev main_call4_c_1 : Ref sig .tc := ⟨.hbm, 89, rfl⟩
abbrev main_call4_c_2 : Ref sig .tc := ⟨.hbm, 90, rfl⟩
abbrev main_call4_v6 : Ref sig .tc := ⟨.hbm, 91, rfl⟩
abbrev main_call4_v7 : Ref sig .tc := ⟨.hbm, 92, rfl⟩
abbrev main_call4_v8 : Ref sig .tc := ⟨.hbm, 93, rfl⟩
abbrev main_call4_v9 : Ref sig .tc := ⟨.hbm, 94, rfl⟩
abbrev main_call4_v10 : Ref sig .tc := ⟨.hbm, 95, rfl⟩
abbrev main_call4_v11 : Ref sig .tc := ⟨.hbm, 96, rfl⟩
abbrev main_call4_c_3 : Ref sig .tc := ⟨.hbm, 97, rfl⟩
abbrev main_call4_v12 : Ref sig .tc := ⟨.hbm, 98, rfl⟩
abbrev main_call4_v13 : Ref sig .tc := ⟨.hbm, 99, rfl⟩
abbrev main_call4_cst : Ref sig .tc := ⟨.hbm, 100, rfl⟩
abbrev main_call4_v14 : Ref sig .tc := ⟨.hbm, 101, rfl⟩
abbrev main_v12 : Ref sig .tc := ⟨.hbm, 102, rfl⟩
abbrev main_call5_c : Ref sig .tc := ⟨.hbm, 103, rfl⟩
abbrev main_call5_v0 : Ref sig .tc := ⟨.hbm, 104, rfl⟩
abbrev main_call5_v1 : Ref sig .tc := ⟨.hbm, 105, rfl⟩
abbrev main_call5_c_0 : Ref sig .tc := ⟨.hbm, 106, rfl⟩
abbrev main_call5_v2 : Ref sig .tc := ⟨.hbm, 107, rfl⟩
abbrev main_call5_v3 : Ref sig .tc := ⟨.hbm, 108, rfl⟩
abbrev main_call5_v4 : Ref sig .tc := ⟨.hbm, 109, rfl⟩
abbrev main_call5_v5 : Ref sig .tc := ⟨.hbm, 110, rfl⟩
abbrev main_call5_c_1 : Ref sig .tc := ⟨.hbm, 111, rfl⟩
abbrev main_call5_c_2 : Ref sig .tc := ⟨.hbm, 112, rfl⟩
abbrev main_call5_v6 : Ref sig .tc := ⟨.hbm, 113, rfl⟩
abbrev main_call5_v7 : Ref sig .tc := ⟨.hbm, 114, rfl⟩
abbrev main_call5_v8 : Ref sig .tc := ⟨.hbm, 115, rfl⟩
abbrev main_call5_v9 : Ref sig .tc := ⟨.hbm, 116, rfl⟩
abbrev main_call5_v10 : Ref sig .tc := ⟨.hbm, 117, rfl⟩
abbrev main_call5_v11 : Ref sig .tc := ⟨.hbm, 118, rfl⟩
abbrev main_call5_c_3 : Ref sig .tc := ⟨.hbm, 119, rfl⟩
abbrev main_call5_v12 : Ref sig .tc := ⟨.hbm, 120, rfl⟩
abbrev main_call5_v13 : Ref sig .tc := ⟨.hbm, 121, rfl⟩
abbrev main_call5_cst : Ref sig .tc := ⟨.hbm, 122, rfl⟩
abbrev main_call5_v14 : Ref sig .tc := ⟨.hbm, 123, rfl⟩
abbrev main_v13 : Ref sig .tc := ⟨.hbm, 124, rfl⟩
abbrev main_v14 : Ref sig .tc := ⟨.hbm, 125, rfl⟩
abbrev main_v15 : Ref sig .tc := ⟨.hbm, 126, rfl⟩
abbrev main_v16 : Ref sig .tc := ⟨.hbm, 127, rfl⟩
abbrev main_v17 : Ref sig .tc := ⟨.hbm, 128, rfl⟩
abbrev main_v18 : Ref sig .tc := ⟨.hbm, 129, rfl⟩
abbrev main_v19 : Ref sig .tc := ⟨.hbm, 130, rfl⟩
abbrev main_v20 : Ref sig .tc := ⟨.hbm, 131, rfl⟩
abbrev main_v21 : Ref sig .tc := ⟨.hbm, 132, rfl⟩
abbrev main_v22 : Ref sig .tc := ⟨.hbm, 133, rfl⟩
abbrev main_v23 : Ref sig .tc := ⟨.hbm, 134, rfl⟩
abbrev main_v24 : Ref sig .tc := ⟨.hbm, 135, rfl⟩
abbrev main_v25 : Ref sig .tc := ⟨.hbm, 136, rfl⟩
abbrev main_v26 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_call6_cst : Ref sig .tc := ⟨.hbm, 145, rfl⟩
abbrev main_call6_v0 : Ref sig .tc := ⟨.hbm, 146, rfl⟩
abbrev main_v34 : Ref sig .tc := ⟨.hbm, 147, rfl⟩
abbrev main_v35 : Ref sig .tc := ⟨.hbm, 148, rfl⟩
abbrev main_v36 : Ref sig .tc := ⟨.hbm, 149, rfl⟩
abbrev main_v37 : Ref sig .tc := ⟨.hbm, 150, rfl⟩
abbrev main_v38 : Ref sig .tc := ⟨.hbm, 151, rfl⟩
abbrev main_v39 : Ref sig .tc := ⟨.hbm, 152, rfl⟩
abbrev main_v40 : Ref sig .tc := ⟨.hbm, 153, rfl⟩
abbrev main_call7_cst : Ref sig .tc := ⟨.hbm, 154, rfl⟩
abbrev main_call7_v0 : Ref sig .tc := ⟨.hbm, 155, rfl⟩
abbrev main_v41 : Ref sig .tc := ⟨.hbm, 156, rfl⟩
abbrev main_v42 : Ref sig .tc := ⟨.hbm, 157, rfl⟩
abbrev main_v43 : Ref sig .tc := ⟨.hbm, 158, rfl⟩
abbrev main_v44 : Ref sig .tc := ⟨.hbm, 159, rfl⟩
abbrev main_v45 : Ref sig .tc := ⟨.hbm, 160, rfl⟩
abbrev main_v46 : Ref sig .tc := ⟨.hbm, 161, rfl⟩
abbrev main_call8_cst : Ref sig .tc := ⟨.hbm, 162, rfl⟩
abbrev main_call8_v0 : Ref sig .tc := ⟨.hbm, 163, rfl⟩
abbrev main_call8_v1 : Ref sig .tc := ⟨.hbm, 164, rfl⟩
abbrev main_call8_v2 : Ref sig .tc := ⟨.hbm, 165, rfl⟩
abbrev main_call8_v3 : Ref sig .tc := ⟨.hbm, 166, rfl⟩
abbrev main_call8_v4 : Ref sig .tc := ⟨.hbm, 167, rfl⟩
abbrev main_call8_v5 : Ref sig .tc := ⟨.hbm, 168, rfl⟩
abbrev main_call8_v6 : Ref sig .tc := ⟨.hbm, 169, rfl⟩
abbrev main_call8_v7 : Ref sig .tc := ⟨.hbm, 170, rfl⟩
abbrev main_call8_v8 : Ref sig .tc := ⟨.hbm, 171, rfl⟩
abbrev main_call8_v9 : Ref sig .tc := ⟨.hbm, 172, rfl⟩
abbrev main_call8_v10 : Ref sig .tc := ⟨.hbm, 173, rfl⟩
abbrev main_call8_v11 : Ref sig .tc := ⟨.hbm, 174, rfl⟩
abbrev main_v47 : Ref sig .tc := ⟨.hbm, 175, rfl⟩
abbrev main_call9_c : Ref sig .tc := ⟨.hbm, 176, rfl⟩
abbrev main_call9_v0 : Ref sig .tc := ⟨.hbm, 177, rfl⟩
abbrev main_call9_v1 : Ref sig .tc := ⟨.hbm, 178, rfl⟩
abbrev main_call9_c_0 : Ref sig .tc := ⟨.hbm, 179, rfl⟩
abbrev main_call9_v2 : Ref sig .tc := ⟨.hbm, 180, rfl⟩
abbrev main_call9_v3 : Ref sig .tc := ⟨.hbm, 181, rfl⟩
abbrev main_call9_v4 : Ref sig .tc := ⟨.hbm, 182, rfl⟩
abbrev main_call9_v5 : Ref sig .tc := ⟨.hbm, 183, rfl⟩
abbrev main_call9_c_1 : Ref sig .tc := ⟨.hbm, 184, rfl⟩
abbrev main_call9_c_2 : Ref sig .tc := ⟨.hbm, 185, rfl⟩
abbrev main_call9_v6 : Ref sig .tc := ⟨.hbm, 186, rfl⟩
abbrev main_call9_v7 : Ref sig .tc := ⟨.hbm, 187, rfl⟩
abbrev main_call9_v8 : Ref sig .tc := ⟨.hbm, 188, rfl⟩
abbrev main_call9_v9 : Ref sig .tc := ⟨.hbm, 189, rfl⟩
abbrev main_call9_v10 : Ref sig .tc := ⟨.hbm, 190, rfl⟩
abbrev main_call9_v11 : Ref sig .tc := ⟨.hbm, 191, rfl⟩
abbrev main_call9_c_3 : Ref sig .tc := ⟨.hbm, 192, rfl⟩
abbrev main_call9_v12 : Ref sig .tc := ⟨.hbm, 193, rfl⟩
abbrev main_call9_v13 : Ref sig .tc := ⟨.hbm, 194, rfl⟩
abbrev main_call9_cst : Ref sig .tc := ⟨.hbm, 195, rfl⟩
abbrev main_call9_v14 : Ref sig .tc := ⟨.hbm, 196, rfl⟩
abbrev main_v48 : Ref sig .tc := ⟨.hbm, 197, rfl⟩
abbrev main_call10_c : Ref sig .tc := ⟨.hbm, 198, rfl⟩
abbrev main_call10_v0 : Ref sig .tc := ⟨.hbm, 199, rfl⟩
abbrev main_call10_v1 : Ref sig .tc := ⟨.hbm, 200, rfl⟩
abbrev main_call10_c_0 : Ref sig .tc := ⟨.hbm, 201, rfl⟩
abbrev main_call10_v2 : Ref sig .tc := ⟨.hbm, 202, rfl⟩
abbrev main_call10_v3 : Ref sig .tc := ⟨.hbm, 203, rfl⟩
abbrev main_call10_v4 : Ref sig .tc := ⟨.hbm, 204, rfl⟩
abbrev main_call10_v5 : Ref sig .tc := ⟨.hbm, 205, rfl⟩
abbrev main_call10_c_1 : Ref sig .tc := ⟨.hbm, 206, rfl⟩
abbrev main_call10_c_2 : Ref sig .tc := ⟨.hbm, 207, rfl⟩
abbrev main_call10_v6 : Ref sig .tc := ⟨.hbm, 208, rfl⟩
abbrev main_call10_v7 : Ref sig .tc := ⟨.hbm, 209, rfl⟩
abbrev main_call10_v8 : Ref sig .tc := ⟨.hbm, 210, rfl⟩
abbrev main_call10_v9 : Ref sig .tc := ⟨.hbm, 211, rfl⟩
abbrev main_call10_v10 : Ref sig .tc := ⟨.hbm, 212, rfl⟩
abbrev main_call10_v11 : Ref sig .tc := ⟨.hbm, 213, rfl⟩
abbrev main_call10_c_3 : Ref sig .tc := ⟨.hbm, 214, rfl⟩
abbrev main_call10_v12 : Ref sig .tc := ⟨.hbm, 215, rfl⟩
abbrev main_call10_v13 : Ref sig .tc := ⟨.hbm, 216, rfl⟩
abbrev main_call10_cst : Ref sig .tc := ⟨.hbm, 217, rfl⟩
abbrev main_call10_v14 : Ref sig .tc := ⟨.hbm, 218, rfl⟩
abbrev main_v49 : Ref sig .tc := ⟨.hbm, 219, rfl⟩
abbrev main_v50 : Ref sig .tc := ⟨.hbm, 220, rfl⟩
abbrev main_cst : Ref sig .tc := ⟨.hbm, 221, rfl⟩
abbrev main_v51 : Ref sig .tc := ⟨.hbm, 222, rfl⟩
abbrev main_v52 : Ref sig .tc := ⟨.hbm, 223, rfl⟩
abbrev main_cst_9 : Ref sig .tc := ⟨.hbm, 224, rfl⟩
abbrev main_v53 : Ref sig .tc := ⟨.hbm, 225, rfl⟩
abbrev main_cst_10 : Ref sig .tc := ⟨.hbm, 226, rfl⟩
abbrev main_v54 : Ref sig .tc := ⟨.hbm, 227, rfl⟩
abbrev main_cst_11 : Ref sig .tc := ⟨.hbm, 228, rfl⟩
abbrev main_v55 : Ref sig .tc := ⟨.hbm, 229, rfl⟩
abbrev main_v56 : Ref sig .tc := ⟨.hbm, 230, rfl⟩
abbrev main_v57 : Ref sig .tc := ⟨.hbm, 231, rfl⟩
abbrev main_v58 : Ref sig .tc := ⟨.hbm, 232, rfl⟩
abbrev main_v59 : Ref sig .tc := ⟨.hbm, 233, rfl⟩
abbrev main_v60 : Ref sig .tc := ⟨.hbm, 234, rfl⟩
abbrev main_c_12 : Ref sig .tc := ⟨.hbm, 235, rfl⟩
abbrev main_v61 : Ref sig .tc := ⟨.hbm, 236, rfl⟩
abbrev main_v62 : Ref sig .tc := ⟨.hbm, 237, rfl⟩
abbrev main_v63 : Ref sig .tc := ⟨.hbm, 238, rfl⟩
abbrev main_c_13 : Ref sig .tc := ⟨.hbm, 239, rfl⟩
abbrev main_v64 : Ref sig .tc := ⟨.hbm, 240, rfl⟩
abbrev main_v65 : Ref sig .tc := ⟨.hbm, 241, rfl⟩
abbrev main_v66 : Ref sig .tc := ⟨.hbm, 242, rfl⟩
abbrev main_v67 : Ref sig .tc := ⟨.hbm, 243, rfl⟩
abbrev main_v68 : Ref sig .tc := ⟨.hbm, 244, rfl⟩
abbrev main_v69 : Ref sig .tc := ⟨.hbm, 245, rfl⟩
abbrev main_v70 : Ref sig .tc := ⟨.hbm, 246, rfl⟩
abbrev main_v71 : Ref sig .tc := ⟨.hbm, 247, rfl⟩
abbrev main_v72 : Ref sig .tc := ⟨.hbm, 248, rfl⟩
abbrev main_v73 : Ref sig .tc := ⟨.hbm, 249, rfl⟩
abbrev main_v74 : Ref sig .tc := ⟨.hbm, 250, rfl⟩
abbrev main_v75 : Ref sig .tc := ⟨.hbm, 251, rfl⟩
abbrev main_c_14 : Ref sig .tc := ⟨.hbm, 252, rfl⟩
abbrev main_v76 : Ref sig .tc := ⟨.hbm, 253, rfl⟩
abbrev main_v77 : Ref sig .tc := ⟨.hbm, 254, rfl⟩
abbrev main_v78 : Ref sig .tc := ⟨.hbm, 255, rfl⟩
abbrev main_c_15 : Ref sig .tc := ⟨.hbm, 256, rfl⟩
abbrev main_v79 : Ref sig .tc := ⟨.hbm, 257, rfl⟩
abbrev main_v80 : Ref sig .tc := ⟨.hbm, 258, rfl⟩
abbrev main_v81 : Ref sig .tc := ⟨.hbm, 259, rfl⟩
abbrev main_v82 : Ref sig .tc := ⟨.hbm, 260, rfl⟩
abbrev main_v83 : Ref sig .tc := ⟨.hbm, 261, rfl⟩
abbrev main_v84 : Ref sig .tc := ⟨.hbm, 262, rfl⟩
abbrev main_v85 : Ref sig .tc := ⟨.hbm, 263, rfl⟩
abbrev main_c_16 : Ref sig .tc := ⟨.hbm, 264, rfl⟩
abbrev main_v86 : Ref sig .tc := ⟨.hbm, 265, rfl⟩
abbrev main_v87 : Ref sig .tc := ⟨.hbm, 266, rfl⟩
abbrev main_v88 : Ref sig .tc := ⟨.hbm, 267, rfl⟩
abbrev main_c_17 : Ref sig .tc := ⟨.hbm, 268, rfl⟩
abbrev main_v89 : Ref sig .tc := ⟨.hbm, 269, rfl⟩
abbrev main_v90 : Ref sig .tc := ⟨.hbm, 270, rfl⟩
abbrev main_v91 : Ref sig .tc := ⟨.hbm, 271, rfl⟩
abbrev main_v92 : Ref sig .tc := ⟨.hbm, 272, rfl⟩
abbrev main_v93 : Ref sig .tc := ⟨.hbm, 273, rfl⟩
abbrev main_v94 : Ref sig .tc := ⟨.hbm, 274, rfl⟩
abbrev main_v95 : Ref sig .tc := ⟨.hbm, 275, rfl⟩
abbrev main_v96 : Ref sig .tc := ⟨.hbm, 276, rfl⟩
abbrev main_cst_18 : Ref sig .tc := ⟨.hbm, 277, rfl⟩
abbrev main_v97 : Ref sig .tc := ⟨.hbm, 278, rfl⟩
abbrev main_v98 : Ref sig .tc := ⟨.hbm, 279, rfl⟩
abbrev main_cst_19 : Ref sig .tc := ⟨.hbm, 280, rfl⟩
abbrev main_v99 : Ref sig .tc := ⟨.hbm, 281, rfl⟩
abbrev main_v100 : Ref sig .tc := ⟨.hbm, 282, rfl⟩
abbrev main_cst_20 : Ref sig .tc := ⟨.hbm, 283, rfl⟩
abbrev main_v101 : Ref sig .tc := ⟨.hbm, 284, rfl⟩
abbrev main_v102 : Ref sig .tc := ⟨.hbm, 285, rfl⟩
abbrev main_cst_21 : Ref sig .tc := ⟨.hbm, 286, rfl⟩
abbrev main_v103 : Ref sig .tc := ⟨.hbm, 287, rfl⟩
abbrev main_v104 : Ref sig .tc := ⟨.hbm, 288, rfl⟩
abbrev main_v105 : Ref sig .tc := ⟨.hbm, 289, rfl⟩
abbrev main_v106 : Ref sig .tc := ⟨.hbm, 290, rfl⟩
abbrev main_v107 : Ref sig .tc := ⟨.hbm, 291, rfl⟩
abbrev main_v108 : Ref sig .tc := ⟨.hbm, 292, rfl⟩
abbrev main_v109 : Ref sig .tc := ⟨.hbm, 293, rfl⟩
abbrev main_v110 : Ref sig .tc := ⟨.hbm, 294, rfl⟩
abbrev main_v111 : Ref sig .tc := ⟨.hbm, 295, rfl⟩
abbrev main_v112 : Ref sig .tc := ⟨.hbm, 296, rfl⟩
abbrev main_cst_22 : Ref sig .tc := ⟨.hbm, 297, rfl⟩
abbrev main_v113 : Ref sig .tc := ⟨.hbm, 298, rfl⟩
abbrev main_cst_23 : Ref sig .tc := ⟨.hbm, 299, rfl⟩
abbrev main_v114 : Ref sig .tc := ⟨.hbm, 300, rfl⟩
abbrev main_v115 : Ref sig .tc := ⟨.hbm, 301, rfl⟩
abbrev main_v116 : Ref sig .tc := ⟨.hbm, 302, rfl⟩
abbrev main_v117 : Ref sig .tc := ⟨.hbm, 303, rfl⟩
abbrev main_v118 : Ref sig .tc := ⟨.hbm, 304, rfl⟩

abbrev nD : Nat := 1
abbrev τ : Topo := Topo.v7x

variable {F : FTy → Type} [FloatOps F]
-- ==== Proof.Rank.lean ====
/- The place of a sample in its row's descending order, counted and sorted.

   The kernel counts, for each sample of a row, the samples that come before it: the greater ones, and of the equal ones
   those at lower positions. The reference sorts the negated row stably. The sort puts at place `k` the sample with `k`
   samples before it. -/
module

public import Idealize.ShloMosaic.Lib.SortPrefix
public import Idealize.ShloMosaic.Lib.SortFacts
public import Mathlib.Data.EReal.Operations

@[expose] public section

noncomputable section

namespace Cert.Loss

open Idealize.ShloMosaic

/-- On positions in increasing order a stable sort by a key is the sort by the key and then the position. -/
theorem stableSort_key_then_position {n : ℕ} {κ : Type} [DecidableEq κ] (lt : κ → κ → Bool) (key : Fin n → κ) :
    ∀ l : List (Fin n), l.Pairwise (· < ·) →
      stableSort (fun a b => lt (key a) (key b)) l
        = stableSort (fun a b => lt (key a) (key b) || (decide (key a = key b) && decide (a < b))) l
  | [], _ => rfl
  | a :: l, h => by
    have h' := List.pairwise_cons.mp h
    unfold stableSort
    rw [stableSort_key_then_position lt key l h'.2]
    refine insertBefore_congr _ _ _ _ fun b hb => ?_
    have hab : a < b := h'.1 b ((perm_stableSort _ l).mem_iff.mp hb)
    have hba : ¬ b < a := not_lt_of_gt hab
    simp [hba]

/-- The same for the positions the sort reads from. -/
theorem sortedFrom_key_then_position {n : ℕ} {κ : Type} [DecidableEq κ] (lt : κ → κ → Bool) (key : Fin n → κ) :
    sortedFrom (fun a b : Fin n => lt (key a) (key b))
      = sortedFrom (fun a b : Fin n => lt (key a) (key b) || (decide (key a = key b) && decide (a < b))) := by
  have e : sortPositions n (fun a b : Fin n => lt (key a) (key b))
      = sortPositions n (fun a b : Fin n => lt (key a) (key b) || (decide (key a = key b) && decide (a < b))) :=
    stableSort_key_then_position lt key _ (List.pairwise_lt_finRange n)
  funext k
  unfold sortedFrom
  simp only [List.get_eq_getElem, e]
  rfl

/-- Under a strict total order the number of positions before the one sorted to place `k` is `k`. -/
theorem card_before_sortedFrom {n : ℕ} {B : Fin n → Fin n → Bool} (hB : StrictTotalBefore B) (k : Fin n) :
    (Finset.univ.filter fun j => B j (sortedFrom B k) = true).card = k.val := by
  have hinj := sortedFrom_injective B
  have hno : ∀ i j : Fin n, i < j → B (sortedFrom B j) (sortedFrom B i) = false :=
    sortedFrom_noInversion B B (fun a b h => hB.asymm a b h) (fun _ _ h => h) hB.negTrans
  have e : (Finset.univ.filter fun j => B j (sortedFrom B k) = true) = (Finset.Iio k).map ⟨sortedFrom B, hinj⟩ := by
    ext j
    obtain ⟨i, rfl⟩ := sortedFrom_surjective B j
    simp only [Finset.mem_filter, Finset.mem_univ, true_and, Finset.mem_map, Finset.mem_Iio, Function.Embedding.coeFn_mk]
    constructor
    · intro h
      refine ⟨i, ?_, rfl⟩
      by_contra hlt
      rcases lt_or_eq_of_le (not_lt.mp hlt) with hki | rfl
      · rw [hno k i hki] at h; exact absurd h (by decide)
      · rw [hB.irrefl] at h; exact absurd h (by decide)
    · rintro ⟨i', hi', he⟩
      obtain rfl := hinj he
      rcases hB.total (sortedFrom B i') (sortedFrom B k) (fun e => absurd (hinj e) (ne_of_lt hi')) with h | h
      · exact h
      · rw [hno i' k hi'] at h; exact absurd h (by decide)
  rw [e, Finset.card_map, Fin.card_Iio]

/-- How many samples of the row come before sample `i`: the greater ones, and the equal ones at lower positions. -/
def rank {n : ℕ} (x : Fin n → EReal) (i : Fin n) : ℕ :=
  (Finset.univ.filter fun j => x i < x j ∨ (x j = x i ∧ j < i)).card

/-- The sample at place `k` of the row's descending order: where a stable ascending sort of the negated row reads. -/
def place {n : ℕ} (x : Fin n → EReal) (k : Fin n) : Fin n :=
  sortedFrom (fun a b : Fin n => decide (-x a < -x b)) k

theorem place_injective {n : ℕ} (x : Fin n → EReal) : Function.Injective (place x) := sortedFrom_injective _

theorem place_surjective {n : ℕ} (x : Fin n → EReal) : Function.Surjective (place x) := sortedFrom_surjective _

/-- The sample at place `k` has `k` samples before it. -/
theorem rank_place {n : ℕ} (x : Fin n → EReal) (k : Fin n) : rank x (place x k) = k.val := by
  have hB : StrictTotalBefore fun a b : Fin n =>
      decide (-x a < -x b) || (decide (-x a = -x b) && decide (a < b)) :=
    StrictTotalBefore.of_key_then_position (fun a b : EReal => decide (a < b)) (fun a => -x a)
      (fun a => by simp) (fun a b c h h' => by simp only [decide_eq_true_eq] at *; exact lt_trans h h')
      (fun a b => by simp only [decide_eq_true_eq]; exact lt_trichotomy a b)
  have e : place x = sortedFrom fun a b : Fin n => decide (-x a < -x b) || (decide (-x a = -x b) && decide (a < b)) :=
    sortedFrom_key_then_position (fun a b : EReal => decide (a < b)) (fun a => -x a)
  rw [← card_before_sortedFrom hB k, ← e]
  unfold rank
  congr 1
  ext j
  simp [EReal.neg_lt_neg_iff]

/-- A sample with `k` samples before it is the one at place `k`. -/
theorem rank_eq_iff {n : ℕ} (x : Fin n → EReal) (i k : Fin n) : rank x i = k.val ↔ i = place x k := by
  constructor
  · intro h
    obtain ⟨k', rfl⟩ := place_surjective x i
    rw [rank_place] at h
    rw [Fin.ext h]
  · rintro rfl; exact rank_place x k

theorem rank_lt {n : ℕ} (x : Fin n → EReal) (i : Fin n) : rank x i < n := by
  obtain ⟨k', rfl⟩ := place_surjective x i
  rw [rank_place]; exact k'.isLt

end Cert.Loss

end
-- ==== Proof.Spec.lean ====
/- The loss as one formula over the arrays' elements, which both programs compute.

   `X`, `T` and `S` are the samples' distances and the two scores, `w0`, `c`, `wh` and `wo` the small network. Everything is
   an extended real, as the programs' floats are here. -/
module

public import Idealize.ShloMosaic.PureOps.Ideal
public import proofs.«01_k».proof.Proof.Rank

@[expose] public section

noncomputable section

namespace Cert.Loss

open Idealize.ShloMosaic

/-- `log (1 + e^(-|o|))`. -/
def tail (o : EReal) : EReal := Ideal.log1p (Ideal.exp (-max o (-o)))

/-- `log (1 + e^o)`, in the form both programs compute. -/
def softplus (o : EReal) : EReal := max o 0 + tail o

/-- The network's first layer at a difference of distances. -/
def hid1 (w0 c : Fin 64 → EReal) (d : EReal) (k : Fin 64) : EReal := max (w0 k * d + c k) 0

/-- The network's second layer. -/
def hid2 (w0 c : Fin 64 → EReal) (wh : Fin 64 → Fin 64 → EReal) (d : EReal) (j : Fin 64) : EReal :=
  max (∑ k, wh k j * hid1 w0 c d k) 0

/-- The weight of a pair whose distances differ by `d`. -/
def weight (w0 c : Fin 64 → EReal) (wh : Fin 64 → Fin 64 → EReal) (wo : Fin 64 → EReal) (d : EReal) : EReal :=
  softplus (∑ j, wo j * hid2 w0 c wh d j)

/-- The pair's cross entropy: `t` and `s` are the differences of the two scores. -/
def bce (t s : EReal) : EReal := max s 0 - s * ((Ideal.sign t + 1) * ((1 / 2 : ℝ) : EReal)) + tail s

/-- The sample selected at place `k`, of the first 128 of 512. -/
def sel (x : Fin 512 → EReal) (k : Fin 128) : Fin 512 := place x ⟨k.val, by omega⟩

/-- The difference of `v` at the samples selected at places `i` and `j` of the order of `x`. -/
def dif (x v : Fin 512 → EReal) (i j : Fin 128) : EReal := v (sel x i) - v (sel x j)

/-- A row's weighted cross entropies over the pairs `i < j`, the others counted with factor zero. -/
def rowLoss (x t s : Fin 512 → EReal) (w0 c : Fin 64 → EReal) (wh : Fin 64 → Fin 64 → EReal) (wo : Fin 64 → EReal) : EReal :=
  ∑ i : Fin 128, ∑ j : Fin 128,
    bce (dif x t i j) (dif x s i j) * weight w0 c wh wo (dif x x i j) * (if i < j then 1 else 0)

/-- A row's norm of the weights over all pairs. -/
def rowNorm (x : Fin 512 → EReal) (w0 c : Fin 64 → EReal) (wh : Fin 64 → Fin 64 → EReal) (wo : Fin 64 → EReal) : EReal :=
  Ideal.sqrt (∑ i : Fin 128, ∑ j : Fin 128, weight w0 c wh wo (dif x x i j) * weight w0 c wh wo (dif x x i j))

/-- An extended real that is a real number. -/
def IsReal (x : EReal) : Prop := ∃ r : ℝ, x = (r : EReal)

end Cert.Loss

end
-- ==== Proof.Consts.lean ====
/- The float constants the two programs spell, as the real numbers their patterns denote. -/
module

public import Idealize.ShloMosaic.PureOps.Ideal

@[expose] public section

noncomputable section

namespace Cert.Loss

open Idealize.ShloMosaic

/-- `0.5`. -/
theorem ofBits_half : Ideal.ofBits .f32 0x3F000000#32 = ((1 / 2 : ℝ) : EReal) := by
  simp [Ideal.ofBits, Ideal.ieee, -EReal.coe_mul]; norm_num

/-- `2.0`. -/
theorem ofBits_two : Ideal.ofBits .f32 0x40000000#32 = ((2 : ℝ) : EReal) := by
  simp [Ideal.ofBits, Ideal.ieee, -EReal.coe_mul]; norm_num

/-- `-1.0`. -/
theorem ofBits_neg_one : Ideal.ofBits .f32 0xBF800000#32 = ((-1 : ℝ) : EReal) := by
  simp [Ideal.ofBits, Ideal.ieee, -EReal.coe_mul]; norm_num

/-- `32.0`, the number of rows. -/
theorem ofBits_32 : Ideal.ofBits .f32 0x42000000#32 = ((32 : ℝ) : EReal) := by
  simp [Ideal.ofBits, Ideal.ieee, -EReal.coe_mul]; norm_num

/-- `512.0`, the number of samples in a row. -/
theorem ofBits_512 : Ideal.ofBits .f32 0x44000000#32 = ((512 : ℝ) : EReal) := by
  simp [Ideal.ofBits, Ideal.ieee, -EReal.coe_mul]; norm_num

/-- `21888.0`, the variance of the ranks 0 to 511. -/
theorem ofBits_21888 : Ideal.ofBits .f32 0x46AB0000#32 = ((21888 : ℝ) : EReal) := by
  simp [Ideal.ofBits, Ideal.ieee, -EReal.coe_mul]; norm_num

/-- `260096.0`, the number of pairs of all rows. -/
theorem ofBits_260096 : Ideal.ofBits .f32 0x487E0000#32 = ((260096 : ℝ) : EReal) := by
  simp [Ideal.ofBits, Ideal.ieee, -EReal.coe_mul]; norm_num

/-- The positive infinity. -/
theorem ofBits_inf : Ideal.ofBits .f32 0x7F800000#32 = (⊤ : EReal) := by
  simp [Ideal.ofBits, Ideal.ieee]

end Cert.Loss

end
-- ==== Proof.KernelRow.lean ====
/- What the kernel's body computes for one row of the batch: the row's weighted cross entropies and the row's norm.

   The first row's payloads are read here; the other three rows' are the same operations, cut differently. -/
module

public import proofs.«01_k».proof.Proof.Gen.KernelIdeal.Skeleton
public import proofs.«01_k».proof.Proof.Spec
public import proofs.«01_k».proof.Proof.Consts
public import Idealize.ShloMosaic.Lib.Pointwise
public import Idealize.ShloMosaic.Lib.StableHlo.Predicate
public import Idealize.ShloMosaic.Lib.IndicatorCount
public import Idealize.ShloMosaic.PureOps.Ideal.Laws

@[expose] public section

set_option maxRecDepth 16384

noncomputable section

open Idealize.ShloMosaic Idealize.ShloMosaic.TcCoe Idealize.SL.Sem
open Idealize.ShloMosaic.StableHlo.Predicate

namespace Cert.Loss

/-- A finite sum of real numbers, taken among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem sub_self_of_isReal {x : EReal} (h : IsReal x) : x - x = 0 := by
  obtain ⟨r, rfl⟩ := h
  rw [← EReal.coe_sub, sub_self, EReal.coe_zero]

/-- A row of real numbers against the column with `1` at `i` and `-1` at `j` is the difference of its entries there. -/
theorem sum_mul_indicators {n : ℕ} (s : Fin n → EReal) (hs : ∀ k, IsReal (s k)) (i j : Fin n) :
    ∑ k, s k * ((if k = i then 1 else 0) - (if k = j then 1 else 0)) = s i - s j := by
  choose r hr using hs
  have e : ∀ k, s k * ((if k = i then 1 else 0) - (if k = j then 1 else 0))
      = ((r k * ((if k = i then 1 else 0) - (if k = j then 1 else 0)) : ℝ) : EReal) := by
    intro k
    rw [hr k, EReal.coe_mul, EReal.coe_sub]
    split_ifs <;> simp
  rw [Finset.sum_congr rfl fun k _ => e k, ← coe_sum, hr i, hr j, ← EReal.coe_sub]
  simp [mul_sub, Finset.sum_sub_distrib]

/-- The sign of an extended real, by the two comparisons the kernel makes. -/
theorem sign_by_cases (t : EReal) : (if 0 < max t (-t) then if t < 0 then ((-1 : ℝ) : EReal) else 1 else t) = Ideal.sign t := by
  induction t using EReal.rec with
  | bot => simp [Ideal.sign_bot]
  | top => simp [Ideal.sign_top]
  | coe r =>
    rw [Ideal.sign_coe, ← EReal.coe_neg]
    simp only [lt_max_iff, EReal.coe_pos, EReal.coe_neg', Left.neg_pos_iff]
    rcases lt_trichotomy r 0 with h | h | h
    · simp [h]
    · simp [h]
    · simp [h, not_lt.mpr h.le]

end Cert.Loss

namespace Cert.KernelIdeal.Loss

open Cert.KernelIdeal Cert.KernelIdeal.Gen Cert.Loss

/-- The one-hot columns: sample `i` is marked in column `k` exactly when it is the sample at place `k`. -/
theorem oneHot_apply (a : FVec Ideal S1x1x512 .f32) (b : FVec Ideal S1x512x1 .f32)
    (hb : ∀ i : Fin 512, b (ix3 0 i 0) = a (ix3 0 0 i)) (i : Fin 512) (k : Fin 128) :
    k0_pay21 (F := Ideal) a b (ix2 i k) = if i = sel (fun i => a (ix3 0 0 i)) k then 1 else 0 := by
  pointwise [k0_pay21, hb]
  have bits : ∀ j : Fin 512,
      (IntOp.ori (BitVec.ofBool (decide (a (ix3 0 0 i) < a (ix3 0 0 j))))
        (IntOp.andi (BitVec.ofBool (decide (a (ix3 0 0 j) = a (ix3 0 0 i))))
          (IntOp.cmpi .slt (BitVec.ofNat 32 ↑j) (BitVec.ofNat 32 ↑i))) = 1#1)
        ↔ (a (ix3 0 0 i) < a (ix3 0 0 j) ∨ (a (ix3 0 0 j) = a (ix3 0 0 i) ∧ j < i)) := by
    intro j
    rw [show IntOp.cmpi .slt (BitVec.ofNat 32 ↑j) (BitVec.ofNat 32 ↑i)
        = BitVec.ofBool (decide (j < i)) from by
      rw [IntOp.cmpi]
      by_cases h : j < i
      · rw [(slt_ofNat_iff j i (by omega) (by omega)).2 h]; simp [h]
      · rw [BitVec.eq_zero_or_eq_one (BitVec.ofBool _) |>.resolve_right
          (fun e => h ((slt_ofNat_iff j i (by omega) (by omega)).1 e))]; simp [h]]
    by_cases h1 : a (ix3 0 0 i) < a (ix3 0 0 j) <;> by_cases h2 : a (ix3 0 0 j) = a (ix3 0 0 i)
      <;> by_cases h3 : j < i <;> simp [h1, h2, h3, IntOp.ori, IntOp.andi]
  have count := (IndicatorCount.fold_addi_setWidth_eq_card (w := 32) (fun j : Fin 512 =>
      IntOp.ori (BitVec.ofBool (decide (a (ix3 0 0 i) < a (ix3 0 0 j))))
        (IntOp.andi (BitVec.ofBool (decide (a (ix3 0 0 j) = a (ix3 0 0 i))))
          (IntOp.cmpi .slt (BitVec.ofNat 32 ↑j) (BitVec.ofNat 32 ↑i)))) Finset.univ).trans
    (congrArg (BitVec.ofNat 32) (congrArg Finset.card (Finset.filter_congr fun j _ => bits j)))
  refine (congrArg (fun z : BitVec 32 => FloatOps.sitofp (F := Ideal) FTy.f32
    (BitVec.setWidth 32 (IntOp.cmpi .eq z (BitVec.ofNat 32 k)))) count).trans ?_
  change FloatOps.sitofp (F := Ideal) FTy.f32 (BitVec.setWidth 32 (IntOp.cmpi .eq
    (BitVec.ofNat 32 (rank (fun i => a (ix3 0 0 i)) i)) (BitVec.ofNat 32 k))) = _
  have hr := rank_lt (fun i => a (ix3 0 0 i)) i
  have hk : i = sel (fun i => a (ix3 0 0 i)) k ↔ BitVec.ofNat 32 (rank (fun i => a (ix3 0 0 i)) i) = BitVec.ofNat 32 k := by
    rw [sel, ← rank_eq_iff (fun i => a (ix3 0 0 i)) i ⟨k.val, by omega⟩]
    refine ⟨fun h => congrArg _ h, fun h => ?_⟩
    have e := congrArg BitVec.toNat h
    rw [BitVec.toNat_ofNat, BitVec.toNat_ofNat, Nat.mod_eq_of_lt (by omega), Nat.mod_eq_of_lt (by omega)] at e
    exact e
  by_cases h : i = sel (fun i => a (ix3 0 0 i)) k
  · rw [if_pos h, cmpi_eq_iff.2 (hk.1 h)]
    show (((BitVec.setWidth 32 1#1).toInt : ℝ) : EReal) = 1
    norm_num
  · rw [if_neg h, (BitVec.eq_zero_or_eq_one _).resolve_right fun e => h (hk.2 (cmpi_eq_iff.1 e))]
    show (((BitVec.setWidth 32 0#1).toInt : ℝ) : EReal) = 0
    norm_num

theorem pay2_eq (a : FVec Ideal S1x1x512 .f32) (b : FVec Ideal S1x512x1 .f32) (v : FVec Ideal S1x3x512 .f32)
    (hv : ∀ q i, IsReal (v (ix3 0 q i))) (q : Fin 3) (k : Fin 128) :
    k0_pay2 (F := Ideal) a b v (ix2 q k) = ∑ i : Fin 512, v (ix3 0 q i) * k0_pay21 (F := Ideal) a b (ix2 i k) := by
  pointwise [k0_pay2, k0_pay21]
  simp only [sub_self_of_isReal (hv q _), sub_self, sub_zero, zero_mul, Finset.sum_const_zero, add_zero]

/-- The selected samples: the one-hot product reads row `q` at the sample at place `k`. -/
theorem pay2_apply (a : FVec Ideal S1x1x512 .f32) (b : FVec Ideal S1x512x1 .f32) (v : FVec Ideal S1x3x512 .f32)
    (hb : ∀ i : Fin 512, b (ix3 0 i 0) = a (ix3 0 0 i))
    (hv : ∀ q i, IsReal (v (ix3 0 q i))) (q : Fin 3) (k : Fin 128) :
    k0_pay2 (F := Ideal) a b v (ix2 q k) = v (ix3 0 q (sel (fun i => a (ix3 0 0 i)) k)) := by
  rw [pay2_eq a b v hv, Finset.sum_congr rfl fun i _ => by rw [oneHot_apply a b hb i k]]
  simp

/-- The differences: column `128 i + j` of row `q` is the difference of the entries `i` and `j`. -/
theorem pay4_apply (s : FVec Ideal S3x128 .f32) (d : FVec Ideal S128x16384 .f32) (hs : ∀ q k, IsReal (s (ix2 q k)))
    (hd : ∀ (k i j : Fin 128) (h : i.val * 128 + j.val < 16384), d (ix2 k ⟨i.val * 128 + j.val, h⟩)
      = (if k = i then 1 else 0) - (if k = j then 1 else 0))
    (q : Fin 3) (i j : Fin 128) (h : i.val * 128 + j.val < 16384) :
    k0_pay4 (F := Ideal) s d (ix2 q ⟨i.val * 128 + j.val, h⟩) = s (ix2 q i) - s (ix2 q j) := by
  pointwise [k0_pay4]
  simp only [sub_self_of_isReal (hs q _), sub_self, sub_zero, zero_mul, Finset.sum_const_zero, add_zero, hd]
  exact sum_mul_indicators (fun k => s (ix2 q k)) (hs q) i j

/-- The weights: the network at the first row of differences, its first layer's offset `c` in the second column. -/
theorem pay5_apply (s : FVec Ideal S3x128 .f32) (d : FVec Ideal S128x16384 .f32) (o : FVec Ideal S2x16384 .f32)
    (w : FVec Ideal S64x3 .f32) (wh : FVec Ideal S1x64x64 .f32) (wo : FVec Ideal S1x64 .f32)
    (ho : ∀ r p, o (ix2 r p) = 1) (hw : ∀ k, w (ix2 k 2) = 0) (p : Fin 16384) :
    k0_pay5 (F := Ideal) s d o w wh wo (ix2 0 p)
      = weight (fun k => w (ix2 k 0)) (fun k => w (ix2 k 1)) (fun k j => wh (ix3 0 j k)) (fun j => wo (ix2 0 j))
          (k0_pay4 (F := Ideal) s d (ix2 0 p)) := by
  pointwise [k0_pay5, ho]
  simp only [Fin.sum_univ_two, Finset.univ_unique, Finset.sum_singleton, mul_one, zero_sub]
  rw [weight, softplus, tail]
  have e : ∀ k : Fin 64, w (ix2 k ⟨1 + ((1 : Fin 2) : ℕ), by decide⟩) = 0 := fun k => hw k
  simp only [e, add_zero]
  rfl

/-- The row's weighted cross entropies, from its weights, its two score differences and the mask. -/
theorem pay8_apply (w t s m : FVec Ideal S1x16384 .f32) :
    k0_pay8 (F := Ideal) w t s m = ∑ p : Fin 16384, bce (t (ix2 0 p)) (s (ix2 0 p)) * w (ix2 0 p) * m (ix2 0 p) := by
  pointwise [k0_pay8]
  simp only [Finset.univ_unique, Finset.sum_singleton, zero_sub, ofBits_neg_one, ofBits_half]
  refine Finset.sum_congr rfl fun p _ => ?_
  rw [bce, ← sign_by_cases]
  rfl

/-- The row's norm, from its weights. -/
theorem pay9_apply (w : FVec Ideal S1x16384 .f32) :
    k0_pay9 (F := Ideal) w = Ideal.sqrt (∑ p : Fin 16384, w (ix2 0 p) * w (ix2 0 p)) := by
  pointwise [k0_pay9]
  simp only [Finset.univ_unique, Finset.sum_singleton]
  generalize (∑ p : Fin 16384, w (ix2 0 p) * w (ix2 0 p) : EReal) = n
  rfl

/-- The row's weights as the body computes them. -/
def rowW (a : FVec Ideal S1x1x512 .f32) (b : FVec Ideal S1x512x1 .f32) (v : FVec Ideal S1x3x512 .f32)
    (d : FVec Ideal S128x16384 .f32) (o : FVec Ideal S2x16384 .f32) (w : FVec Ideal S64x3 .f32)
    (wh : FVec Ideal S1x64x64 .f32) (wo : FVec Ideal S1x64 .f32) : FVec Ideal S1x16384 .f32 :=
  k0_pay5 (k0_pay2 a b v) (k0_pay3 d) o w wh wo

/-- The row's weighted cross entropies as the body computes them. -/
def rowB (a : FVec Ideal S1x1x512 .f32) (b : FVec Ideal S1x512x1 .f32) (v : FVec Ideal S1x3x512 .f32)
    (d : FVec Ideal S128x16384 .f32) (o : FVec Ideal S2x16384 .f32) (w : FVec Ideal S64x3 .f32)
    (wh : FVec Ideal S1x64x64 .f32) (wo : FVec Ideal S1x64 .f32) (m : FVec Ideal S1x16384 .f32) : EReal :=
  k0_pay8 (rowW a b v d o w wh wo) (k0_pay6 (k0_pay2 a b v) (k0_pay3 d)) (k0_pay7 (k0_pay2 a b v) (k0_pay3 d)) m

/-- The row's norm as the body computes it. -/
def rowN (a : FVec Ideal S1x1x512 .f32) (b : FVec Ideal S1x512x1 .f32) (v : FVec Ideal S1x3x512 .f32)
    (d : FVec Ideal S128x16384 .f32) (o : FVec Ideal S2x16384 .f32) (w : FVec Ideal S64x3 .f32)
    (wh : FVec Ideal S1x64x64 .f32) (wo : FVec Ideal S1x64 .f32) : EReal :=
  k0_pay9 (rowW a b v d o w wh wo)

section
variable (a : FVec Ideal S1x1x512 .f32) (b : FVec Ideal S1x512x1 .f32) (v : FVec Ideal S1x3x512 .f32)
  (d : FVec Ideal S128x16384 .f32) (o : FVec Ideal S2x16384 .f32) (w : FVec Ideal S64x3 .f32)
  (wh : FVec Ideal S1x64x64 .f32) (wo : FVec Ideal S1x64 .f32) (m : FVec Ideal S1x16384 .f32)
  (hb : ∀ i : Fin 512, b (ix3 0 i 0) = a (ix3 0 0 i)) (ha : ∀ i : Fin 512, v (ix3 0 0 i) = a (ix3 0 0 i))
  (hv : ∀ q i, IsReal (v (ix3 0 q i)))
  (hd : ∀ (k i j : Fin 128) (h : i.val * 128 + j.val < 16384), d (ix2 k ⟨i.val * 128 + j.val, h⟩)
      = (if k = i then 1 else 0) - (if k = j then 1 else 0))
  (ho : ∀ r p, o (ix2 r p) = 1) (hw : ∀ k, w (ix2 k 2) = 0)
  (hm : ∀ (i j : Fin 128) (h : i.val * 128 + j.val < 16384), m (ix2 0 ⟨i.val * 128 + j.val, h⟩) = if i < j then 1 else 0)

include hb hv hd in
/-- Row `q` of the differences. -/
theorem dts_apply (q : Fin 3) (i j : Fin 128) (h : i.val * 128 + j.val < 16384) :
    k0_pay4 (F := Ideal) (k0_pay2 a b v) (k0_pay3 d) (ix2 q ⟨i.val * 128 + j.val, h⟩)
      = dif (fun i => a (ix3 0 0 i)) (fun i => v (ix3 0 q i)) i j := by
  rw [pay4_apply _ _ (fun q k => by rw [pay2_apply a b v hb hv]; exact hv q _)
    (fun k i j h => by pointwise [k0_pay3]; exact hd k i j h), pay2_apply a b v hb hv, pay2_apply a b v hb hv, dif]

include hb ha hv hd ho hw in
theorem rowW_apply (i j : Fin 128) (h : i.val * 128 + j.val < 16384) :
    rowW a b v d o w wh wo (ix2 0 ⟨i.val * 128 + j.val, h⟩)
      = weight (fun k => w (ix2 k 0)) (fun k => w (ix2 k 1)) (fun k j => wh (ix3 0 j k)) (fun j => wo (ix2 0 j))
          (dif (fun i => a (ix3 0 0 i)) (fun i => a (ix3 0 0 i)) i j) := by
  rw [rowW, pay5_apply _ _ o w wh wo ho hw, dts_apply a b v d hb hv hd]
  simp only [ha]

include hb ha hv hd ho hw hm in
theorem rowB_eq : rowB a b v d o w wh wo m
    = rowLoss (fun i => a (ix3 0 0 i)) (fun i => v (ix3 0 1 i)) (fun i => v (ix3 0 2 i))
        (fun k => w (ix2 k 0)) (fun k => w (ix2 k 1)) (fun k j => wh (ix3 0 j k)) (fun j => wo (ix2 0 j)) := by
  rw [rowB, pay8_apply, Fin.sum_univ_tiles 128 128 rfl, rowLoss]
  refine Finset.sum_congr rfl fun i _ => Finset.sum_congr rfl fun j _ => ?_
  have h : i.val * 128 + j.val < 16384 := by omega
  rw [rowW_apply a b v d o w wh wo hb ha hv hd ho hw i j h, hm i j h]
  have e1 : k0_pay6 (F := Ideal) (k0_pay2 a b v) (k0_pay3 d) (ix2 0 ⟨i.val * 128 + j.val, h⟩)
      = dif (fun i => a (ix3 0 0 i)) (fun i => v (ix3 0 1 i)) i j := by
    rw [← dts_apply a b v d hb hv hd 1 i j h]; pointwise [k0_pay6]
  have e2 : k0_pay7 (F := Ideal) (k0_pay2 a b v) (k0_pay3 d) (ix2 0 ⟨i.val * 128 + j.val, h⟩)
      = dif (fun i => a (ix3 0 0 i)) (fun i => v (ix3 0 2 i)) i j := by
    rw [← dts_apply a b v d hb hv hd 2 i j h]; pointwise [k0_pay7]
  rw [e1, e2]

include hb ha hv hd ho hw in
theorem rowN_eq : rowN a b v d o w wh wo
    = rowNorm (fun i => a (ix3 0 0 i))
        (fun k => w (ix2 k 0)) (fun k => w (ix2 k 1)) (fun k j => wh (ix3 0 j k)) (fun j => wo (ix2 0 j)) := by
  rw [rowN, pay9_apply, Fin.sum_univ_tiles 128 128 rfl, rowNorm]
  refine congrArg Ideal.sqrt (Finset.sum_congr rfl fun i _ => Finset.sum_congr rfl fun j _ => ?_)
  have h : i.val * 128 + j.val < 16384 := by omega
  rw [rowW_apply a b v d o w wh wo hb ha hv hd ho hw i j h]

end

end Cert.KernelIdeal.Loss

end
-- ==== Proof.KernelRows.lean ====
/- The four rows of one grid point: each row's payloads are the first row's, cut at other places, so what a point adds to
   the two running sums is the four rows' cross entropies and the four rows' norms. -/
module

public import proofs.«01_k».proof.Proof.KernelRow

@[expose] public section

set_option maxRecDepth 16384

noncomputable section

open Idealize.ShloMosaic Idealize.ShloMosaic.TcCoe Idealize.SL.Sem

namespace Cert.KernelIdeal.Loss

open Cert.KernelIdeal Cert.KernelIdeal.Gen Cert.Loss

variable (a a0 a1 a2 a3 : FVec Ideal S1x1x512 .f32) (b b0 b1 b2 b3 : FVec Ideal S1x512x1 .f32)
  (v v0 v1 v2 v3 : FVec Ideal S1x3x512 .f32)
  (d : FVec Ideal S128x16384 .f32) (o : FVec Ideal S2x16384 .f32) (w : FVec Ideal S64x3 .f32)
  (wh : FVec Ideal S1x64x64 .f32) (wo : FVec Ideal S1x64 .f32) (m : FVec Ideal S1x16384 .f32) (acc : EReal)

/-- The row's differences as the first row computes them. -/
abbrev rowD : FVec Ideal S3x16384 .f32 := k0_pay4 (k0_pay2 a b v) (k0_pay3 d)

/-! The second row. -/

theorem dts1 : k0_pay13 (F := Ideal) (k0_pay10 a) (k0_pay11 b) (iota Kind.tc S512x512 32 [0] iota_S512x512_d0_w32)
    (iota Kind.tc S512x512 32 [1] iota_S512x512_d1_w32) (k0_pay12 (F := Ideal) a b) v d = rowD a b v d := rfl

theorem wts1 : k0_pay15 (F := Ideal) (k0_pay14 (k0_pay10 a) (k0_pay11 b) (iota Kind.tc S512x512 32 [0] iota_S512x512_d0_w32)
    (iota Kind.tc S512x512 32 [1] iota_S512x512_d1_w32) (k0_pay12 (F := Ideal) a b) v d o) w wh wo = rowW a b v d o w wh wo := rfl

theorem acc1N (W : FVec Ideal S1x16384 .f32) : k0_pay20 (F := Ideal) acc W = acc + k0_pay9 (F := Ideal) W := by
  pointwise [k0_pay20, k0_pay9]

theorem acc1B (W : FVec Ideal S1x16384 .f32) (D : FVec Ideal S3x16384 .f32) :
    k0_pay19 (F := Ideal) acc W (k0_pay17 D) (k0_pay18 D) m
      = acc + k0_pay8 (F := Ideal) W (extractStridedSlice S1x16384 ![1, 0] D slices_S3x16384_o1_0_S1x16384)
          (extractStridedSlice S1x16384 ![2, 0] D slices_S3x16384_o2_0_S1x16384) m := by
  pointwise [k0_pay19, k0_pay8, k0_pay16, k0_pay17, k0_pay18]

/-! The third row. -/

theorem dts2 : k0_pay26 (F := Ideal) (k0_pay21 a b) (k0_pay23 v) (k0_pay24 v) (k0_pay25 v) d = rowD a b v d := rfl

theorem wts2 : k0_pay29 (F := Ideal) (k0_pay27 (k0_pay21 a b) (k0_pay23 v) (k0_pay24 v) (k0_pay25 v) d o w wh wo) k0_pay28
    = rowW a b v d o w wh wo := rfl

theorem acc2N (O Z : FVec Ideal S1x16384 .f32) :
    k0_pay31 (F := Ideal) acc O Z = acc + k0_pay9 (F := Ideal) (k0_pay29 O Z) := by
  pointwise [k0_pay31, k0_pay9]

theorem acc2B (O Z : FVec Ideal S1x16384 .f32) (D : FVec Ideal S3x16384 .f32) :
    k0_pay30 (F := Ideal) acc D O Z m
      = acc + k0_pay8 (F := Ideal) (k0_pay29 O Z) (extractStridedSlice S1x16384 ![1, 0] D slices_S3x16384_o1_0_S1x16384)
          (extractStridedSlice S1x16384 ![2, 0] D slices_S3x16384_o2_0_S1x16384) m := by
  pointwise [k0_pay30, k0_pay8]

/-! The fourth row. -/

theorem dts3 : k0_pay40 (F := Ideal) (k0_pay33 d) (k0_pay37 a b v) (k0_pay38 a b v d) (k0_pay39 a b v d) = rowD a b v d := rfl

theorem wts3 : k0_pay41 (F := Ideal) (k0_pay33 d) (k0_pay37 a b v) (k0_pay38 a b v d) (k0_pay39 a b v d) o w wh wo
    = rowW a b v d o w wh wo := rfl

theorem acc3N (pre : EReal) (W : FVec Ideal S1x16384 .f32) :
    k0_pay45 (F := Ideal) acc W pre = pre + (acc + k0_pay9 (F := Ideal) W) := by
  pointwise [k0_pay45, k0_pay9]

theorem acc3B (pre : EReal) (W : FVec Ideal S1x16384 .f32) (e : FVec Ideal S128x16384 .f32) (f : FVec Ideal S3x128 .f32)
    (g h : FVec Ideal S3x16384 .f32) :
    k0_pay44 (F := Ideal) acc W (k0_pay42 e f g h) (k0_pay43 e f g h) (FloatOps.ofBits FTy.f32 1056964608#32) m pre
      = pre + (acc + k0_pay8 (F := Ideal) W
          (extractStridedSlice S1x16384 ![1, 0] (k0_pay40 e f g h) slices_S3x16384_o1_0_S1x16384)
          (extractStridedSlice S1x16384 ![2, 0] (k0_pay40 e f g h) slices_S3x16384_o2_0_S1x16384) m) := by
  pointwise [k0_pay44, k0_pay8, k0_pay42, k0_pay43]

/-! The four rows together. -/

/-- What a point adds to the running sum of cross entropies. -/
def rowsB : EReal :=
  rowB a0 b0 v0 d o w wh wo m + rowB a1 b1 v1 d o w wh wo m + rowB a2 b2 v2 d o w wh wo m + rowB a3 b3 v3 d o w wh wo m

/-- What a point adds to the running sum of norms. -/
def rowsN : EReal :=
  rowN a0 b0 v0 d o w wh wo + rowN a1 b1 v1 d o w wh wo + rowN a2 b2 v2 d o w wh wo + rowN a3 b3 v3 d o w wh wo

theorem rowsN_eq (pre : EReal) :
    k0_pay45 (F := Ideal)
      (k0_pay31
        (k0_pay20 (k0_pay9 (k0_pay5 (k0_pay2 a0 b0 v0) (k0_pay3 d) o w wh wo))
          (k0_pay15
            (k0_pay14 (k0_pay10 a1) (k0_pay11 b1) (iota Kind.tc S512x512 32 [0] iota_S512x512_d0_w32)
              (iota Kind.tc S512x512 32 [1] iota_S512x512_d1_w32) (k0_pay12 (F := Ideal) a1 b1) v1 d o)
            w wh wo))
        (k0_pay27 (k0_pay21 a2 b2) (k0_pay23 v2) (k0_pay24 v2) (k0_pay25 v2) d o w wh wo) k0_pay28)
      (k0_pay41 (k0_pay33 d) (k0_pay37 a3 b3 v3) (k0_pay38 a3 b3 v3 d) (k0_pay39 a3 b3 v3 d) o w wh wo) pre
    = pre + rowsN a0 a1 a2 a3 b0 b1 b2 b3 v0 v1 v2 v3 d o w wh wo := by
  rw [acc3N, acc2N, acc1N, wts1, wts2, wts3]
  rfl

theorem rowsB_eq (pre : EReal) :
    k0_pay44 (F := Ideal)
      (k0_pay30
        (k0_pay19
          (k0_pay8 (k0_pay5 (k0_pay2 a0 b0 v0) (k0_pay3 d) o w wh wo) (k0_pay6 (k0_pay2 a0 b0 v0) (k0_pay3 d))
            (k0_pay7 (k0_pay2 a0 b0 v0) (k0_pay3 d)) m)
          (k0_pay15
            (k0_pay14 (k0_pay10 a1) (k0_pay11 b1) (iota Kind.tc S512x512 32 [0] iota_S512x512_d0_w32)
              (iota Kind.tc S512x512 32 [1] iota_S512x512_d1_w32) (k0_pay12 (F := Ideal) a1 b1) v1 d o)
            w wh wo)
          (k0_pay17
            (k0_pay13 (k0_pay10 a1) (k0_pay11 b1) (iota Kind.tc S512x512 32 [0] iota_S512x512_d0_w32)
              (iota Kind.tc S512x512 32 [1] iota_S512x512_d1_w32) (k0_pay12 (F := Ideal) a1 b1) v1 d))
          (k0_pay18
            (k0_pay13 (k0_pay10 a1) (k0_pay11 b1) (iota Kind.tc S512x512 32 [0] iota_S512x512_d0_w32)
              (iota Kind.tc S512x512 32 [1] iota_S512x512_d1_w32) (k0_pay12 (F := Ideal) a1 b1) v1 d))
          m)
        (k0_pay26 (k0_pay21 a2 b2) (k0_pay23 v2) (k0_pay24 v2) (k0_pay25 v2) d)
        (k0_pay27 (k0_pay21 a2 b2) (k0_pay23 v2) (k0_pay24 v2) (k0_pay25 v2) d o w wh wo) k0_pay28 m)
      (k0_pay41 (k0_pay33 d) (k0_pay37 a3 b3 v3) (k0_pay38 a3 b3 v3 d) (k0_pay39 a3 b3 v3 d) o w wh wo)
      (k0_pay42 (k0_pay33 d) (k0_pay37 a3 b3 v3) (k0_pay38 a3 b3 v3 d) (k0_pay39 a3 b3 v3 d))
      (k0_pay43 (k0_pay33 d) (k0_pay37 a3 b3 v3) (k0_pay38 a3 b3 v3 d) (k0_pay39 a3 b3 v3 d))
      (FloatOps.ofBits FTy.f32 1056964608#32) m pre
    = pre + rowsB a0 a1 a2 a3 b0 b1 b2 b3 v0 v1 v2 v3 d o w wh wo m := by
  rw [acc3B, acc2B, wts1, dts1, acc1B, wts2, wts3, dts2, dts3]
  rfl

end Cert.KernelIdeal.Loss

end
-- ==== Proof.KernelHost.lean ====
/- What the kernel's operand windows hold at a grid point, over the arrays the program is launched with.

   Windows 1 and 2 hold the point's four batch rows; the others hold the same array at every point. -/
module

public import proofs.«01_k».proof.Proof.Gen.KernelIdeal.Value
public import proofs.«01_k».proof.Proof.KernelRows
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Loss

open Cert.KernelIdeal Cert.KernelIdeal.Gen Cert.Loss

variable (m : (ℓ : Loc nD τ sig) → Buf (Elt Ideal) ℓ) (c : Dev nD)

/-- The arrays the program is launched with, as the arrays they are. -/
def tScore : FVec Ideal S32x512 .f32 := m ((c : Thread nD τ).loc main_arg1)
def sScore : FVec Ideal S32x512 .f32 := m ((c : Thread nD τ).loc main_arg2)
def dist : FVec Ideal S32x512 .f32 := m ((c : Thread nD τ).loc main_arg3)
def wIn : FVec Ideal S3x64 .f32 := m ((c : Thread nD τ).loc main_arg4)
def bIn : FVec Ideal S64 .f32 := m ((c : Thread nD τ).loc main_arg5)
def wHid : FVec Ideal S1x64x64 .f32 := m ((c : Thread nD τ).loc main_arg6)
def wOut : FVec Ideal S64x1 .f32 := m ((c : Thread nD τ).loc main_arg8)
def decay : IVec S_ 32 := m ((c : Thread nD τ).loc main_arg10)

/-- Batch row `4 t + r`. -/
def row (t : Fin cfg0.N) (r : Fin 4) : Fin 32 := ⟨4 * t.val + r.val, by have := lt_of_lt_of_eq t.isLt N_0; omega⟩

theorem idx1 : ∀ t : Fin cfg0.N, win0_1.index t = ![t.val, 0, 0] := (by decide +kernel : ∀ t : Fin grid0.N, _)
theorem idx2 : ∀ t : Fin cfg0.N, win0_2.index t = ![t.val, 0, 0] := (by decide +kernel : ∀ t : Fin grid0.N, _)

theorem blk1 (t : Fin cfg0.N) (r : Fin 4) (q : Fin 3) (i : Fin 512) :
    (iblk m c 1 t : FVec Ideal S4x3x512 .f32) (ix3 r q i) = (V m c main_v4 : FVec Ideal S32x3x512 .f32) (ix3 (row t r) q i) := by
  blk_point [iblk, idx1 t]
  show t.val * 4 + r.val = 4 * t.val + r.val
  omega

theorem blk2 (t : Fin cfg0.N) (r : Fin 4) (i : Fin 512) :
    (iblk m c 2 t : FVec Ideal S4x512x1 .f32) (ix3 r i 0) = (V m c main_v28 : FVec Ideal S32x512x1 .f32) (ix3 (row t r) i 0) := by
  blk_point [iblk, idx2 t]
  show t.val * 4 + r.val = 4 * t.val + r.val
  omega

theorem idx0 : ∀ t : Fin cfg0.N, win0_0.index t = ![0, 0] := (by decide +kernel : ∀ t : Fin grid0.N, _)

theorem blk0 (t : Fin cfg0.N) : (iblk m c 0 t : FVec Ideal S1x1 .f32) = (V m c main_v27 : FVec Ideal S1x1 .f32) := by
  funext x
  idx_vars x
  blk_point [iblk, idx0 t]

theorem idx3 : ∀ t : Fin cfg0.N, win0_3.index t = ![0, 0] := (by decide +kernel : ∀ t : Fin grid0.N, _)

theorem blk3 (t : Fin cfg0.N) : (iblk m c 3 t : FVec Ideal S128x16384 .f32) = (V m c main_v37 : FVec Ideal S128x16384 .f32) := by
  funext x
  idx_vars x
  blk_point [iblk, idx3 t]

theorem idx4 : ∀ t : Fin cfg0.N, win0_4.index t = ![0, 0] := (by decide +kernel : ∀ t : Fin grid0.N, _)

theorem blk4 (t : Fin cfg0.N) : (iblk m c 4 t : FVec Ideal S1x16384 .f32) = (V m c main_v0 : FVec Ideal S1x16384 .f32) := by
  funext x
  idx_vars x
  blk_point [iblk, idx4 t]

theorem idx5 : ∀ t : Fin cfg0.N, win0_5.index t = ![0, 0] := (by decide +kernel : ∀ t : Fin grid0.N, _)

theorem blk5 (t : Fin cfg0.N) : (iblk m c 5 t : FVec Ideal S2x16384 .f32) = (V m c main_cst_0 : FVec Ideal S2x16384 .f32) := by
  funext x
  idx_vars x
  blk_point [iblk, idx5 t]

theorem idx6 : ∀ t : Fin cfg0.N, win0_6.index t = ![0, 0] := (by decide +kernel : ∀ t : Fin grid0.N, _)

theorem blk6 (t : Fin cfg0.N) : (iblk m c 6 t : FVec Ideal S64x3 .f32) = (V m c main_v22 : FVec Ideal S64x3 .f32) := by
  funext x
  idx_vars x
  blk_point [iblk, idx6 t]

theorem idx7 : ∀ t : Fin cfg0.N, win0_7.index t = ![0, 0, 0] := (by decide +kernel : ∀ t : Fin grid0.N, _)

theorem blk7 (t : Fin cfg0.N) : (iblk m c 7 t : FVec Ideal S1x64x64 .f32) = (V m c main_v23 : FVec Ideal S1x64x64 .f32) := by
  funext x
  idx_vars x
  blk_point [iblk, idx7 t]

theorem idx8 : ∀ t : Fin cfg0.N, win0_8.index t = ![0, 0] := (by decide +kernel : ∀ t : Fin grid0.N, _)

theorem blk8 (t : Fin cfg0.N) : (iblk m c 8 t : FVec Ideal S1x64 .f32) = (V m c main_v25 : FVec Ideal S1x64 .f32) := by
  funext x
  idx_vars x
  blk_point [iblk, idx8 t]

/-! The host's arrays. -/

theorem sts_eq : (V m c main_v4 : FVec Ideal S32x3x512 .f32)
    = concatenate S32x3x512 1
        [⟨S32x1x512, broadcastInDim S32x1x512 ![0, 2] bcast_S32x512_S32x1x512_0_2 (dist m c)⟩,
         ⟨S32x1x512, broadcastInDim S32x1x512 ![0, 2] bcast_S32x512_S32x1x512_0_2 (tScore m c)⟩,
         ⟨S32x1x512, broadcastInDim S32x1x512 ![0, 2] bcast_S32x512_S32x1x512_0_2 (sScore m c)⟩]
        concatenates_S32x1x512_S32x1x512_S32x1x512_S32x3x512_d1 := by
  rfl

theorem sts_dist (b : Fin 32) (i : Fin 512) : (V m c main_v4 : FVec Ideal S32x3x512 .f32) (ix3 b 0 i) = dist m c (ix2 b i) := by
  rw [sts_eq]
  pointwise

theorem sts_t (b : Fin 32) (i : Fin 512) : (V m c main_v4 : FVec Ideal S32x3x512 .f32) (ix3 b 1 i) = tScore m c (ix2 b i) := by
  rw [sts_eq]
  pointwise

theorem sts_s (b : Fin 32) (i : Fin 512) : (V m c main_v4 : FVec Ideal S32x3x512 .f32) (ix3 b 2 i) = sScore m c (ix2 b i) := by
  rw [sts_eq]
  pointwise

theorem sdT (b : Fin 32) (i : Fin 512) : (V m c main_v28 : FVec Ideal S32x512x1 .f32) (ix3 b i 0) = dist m c (ix2 b i) := by
  entry_read
  pointwise
  rfl

/-- One entry of an equality test, as the number it is. -/
theorem indicator (k i : Fin 128) :
    (((IntOp.cmpi .eq (BitVec.ofNat 32 k.val) (BitVec.ofNat 32 i.val)).toNat : ℝ) : EReal) = if k = i then (1 : EReal) else 0 := by
  have h : ∀ k i : Fin 128, (IntOp.cmpi .eq (BitVec.ofNat 32 k.val) (BitVec.ofNat 32 i.val)) = if k = i then 1#1 else 0#1 := by
    decide +kernel
  rw [h]
  split <;> simp

theorem diff_apply (k i j : Fin 128) (h : i.val * 128 + j.val < 16384) :
    (V m c main_v37 : FVec Ideal S128x16384 .f32) (ix2 k ⟨i.val * 128 + j.val, h⟩)
      = (if k = i then (1 : EReal) else 0) - (if k = j then 1 else 0) := by
  rw [← indicator k i, ← indicator k j]
  entry_read
  pointwise
  rfl

theorem ones_apply (r : Fin 2) (p : Fin 16384) : (V m c main_cst_0 : FVec Ideal S2x16384 .f32) (ix2 r p) = (1 : EReal) := by
  entry_read
  pointwise

/-- The constant column of the first layer. -/
def constCol : FVec Ideal S64x1 .f32 :=
  shapeCast S64x1 (addf (mulf (broadcastInDim S64 ![] bcast_S_S64 (Host.sqrt (constant S_ .f32 0x46AB0000#32)))
    (shapeCast S64 (extractStridedSlice S1x64 ![2, 0] (wIn m c) slices_S3x64_S1x64_2_0) shapeCasts_S1x64_S64)) (bIn m c)) shapeCasts_S64_S64x1

theorem w13_eq : (V m c main_v22 : FVec Ideal S64x3 .f32)
    = concatenate S64x3 1
        [⟨S64x1, shapeCast S64x1 (shapeCast S64 (extractStridedSlice S1x64 ![0, 0] (wIn m c) slices_S3x64_S1x64_0_0) shapeCasts_S1x64_S64) shapeCasts_S64_S64x1⟩,
         ⟨S64x1, constCol m c⟩, ⟨S64x1, subf (constCol m c) (constCol m c)⟩]
        concatenates_S64x1_S64x1_S64x1_S64x3_d1 := by
  rfl

theorem constCol_apply (k : Fin 64) : constCol m c (ix2 k 0)
    = Ideal.sqrt ((21888 : ℝ) : EReal) * wIn m c (ix2 2 k) + bIn m c (ix1 k) := by
  unfold constCol
  pointwise [ofBits_21888]

theorem w13_0 (k : Fin 64) : (V m c main_v22 : FVec Ideal S64x3 .f32) (ix2 k 0) = wIn m c (ix2 0 k) := by
  rw [w13_eq]
  pointwise

theorem w13_1 (k : Fin 64) : (V m c main_v22 : FVec Ideal S64x3 .f32) (ix2 k 1)
    = Ideal.sqrt ((21888 : ℝ) : EReal) * wIn m c (ix2 2 k) + bIn m c (ix1 k) := by
  rw [w13_eq, ← constCol_apply]
  pointwise

theorem w13_2 (k : Fin 64) (h : IsReal (Ideal.sqrt ((21888 : ℝ) : EReal) * wIn m c (ix2 2 k) + bIn m c (ix1 k))) :
    (V m c main_v22 : FVec Ideal S64x3 .f32) (ix2 k 2) = (0 : EReal) := by
  refine Eq.trans ?_ (sub_self_of_isReal h)
  rw [w13_eq, ← constCol_apply]
  pointwise

theorem whb_apply (j k : Fin 64) : (V m c main_v23 : FVec Ideal S1x64x64 .f32) (ix3 0 j k) = wHid m c (ix3 0 k j) := by
  entry_read
  pointwise
  rfl

theorem wo_apply (j : Fin 64) : (V m c main_v25 : FVec Ideal S1x64 .f32) (ix2 0 j) = wOut m c (ix2 j 0) := by
  entry_read
  pointwise
  rfl

theorem wd_apply : (V m c main_v27 : FVec Ideal S1x1 .f32) (ix2 0 0) = (((decay m c ix0).toInt : ℝ) : EReal) := by
  entry_read
  pointwise
  rfl

end Cert.KernelIdeal.Loss
end
-- ==== Proof.KernelRun.lean ====
/- What the kernel's scratch holds after a grid point, over what it held before. -/
module

public import proofs.«01_k».proof.Proof.Gen.KernelIdeal.Value
public import proofs.«01_k».proof.Proof.KernelHost
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Loss

open Cert.KernelIdeal Cert.KernelIdeal.Gen Cert.Loss

variable (m : (ℓ : Loc nD τ sig) → Buf (Elt Ideal) ℓ) (c : Dev nD)

section Point

variable (t : Fin cfg0.N)

/-- The four rows of a point, as the loads read them. -/
def a0 := View.ld (iblk m c 1 t) (Rect.unit ![0,0,0] ![1,1,512] inb_S4x3x512_S1x1x512_0_0_0)
def a1 := View.ld (iblk m c 1 t) (Rect.unit ![1,0,0] ![1,1,512] inb_S4x3x512_S1x1x512_1_0_0)
def a2 := View.ld (iblk m c 1 t) (Rect.unit ![2,0,0] ![1,1,512] inb_S4x3x512_S1x1x512_2_0_0)
def a3 := View.ld (iblk m c 1 t) (Rect.unit ![3,0,0] ![1,1,512] inb_S4x3x512_S1x1x512_3_0_0)
def v0 := View.ld (iblk m c 1 t) (Rect.unit ![0,0,0] ![1,3,512] inb_S4x3x512_S1x3x512_0_0_0)
def v1 := View.ld (iblk m c 1 t) (Rect.unit ![1,0,0] ![1,3,512] inb_S4x3x512_S1x3x512_1_0_0)
def v2 := View.ld (iblk m c 1 t) (Rect.unit ![2,0,0] ![1,3,512] inb_S4x3x512_S1x3x512_2_0_0)
def v3 := View.ld (iblk m c 1 t) (Rect.unit ![3,0,0] ![1,3,512] inb_S4x3x512_S1x3x512_3_0_0)
def b0 := View.ld (iblk m c 2 t) (Rect.unit ![0,0,0] ![1,512,1] inb_S4x512x1_S1x512x1_0_0_0)
def b1 := View.ld (iblk m c 2 t) (Rect.unit ![1,0,0] ![1,512,1] inb_S4x512x1_S1x512x1_1_0_0)
def b2 := View.ld (iblk m c 2 t) (Rect.unit ![2,0,0] ![1,512,1] inb_S4x512x1_S1x512x1_2_0_0)
def b3 := View.ld (iblk m c 2 t) (Rect.unit ![3,0,0] ![1,512,1] inb_S4x512x1_S1x512x1_3_0_0)

/-- What a point adds to the running loss and to the running sum of norms. -/
def pointB : EReal :=
  rowsB (a0 m c t) (a1 m c t) (a2 m c t) (a3 m c t) (b0 m c t) (b1 m c t) (b2 m c t) (b3 m c t)
    (v0 m c t) (v1 m c t) (v2 m c t) (v3 m c t) (iblk m c 3 t) (iblk m c 5 t) (iblk m c 6 t) (iblk m c 7 t) (iblk m c 8 t) (iblk m c 4 t)
def pointN : EReal :=
  rowsN (a0 m c t) (a1 m c t) (a2 m c t) (a3 m c t) (b0 m c t) (b1 m c t) (b2 m c t) (b3 m c t)
    (v0 m c t) (v1 m c t) (v2 m c t) (v3 m c t) (iblk m c 3 t) (iblk m c 5 t) (iblk m c 6 t) (iblk m c 7 t) (iblk m c 8 t)

end Point

/-- The scratch's two numbers. -/
def scr (n : ℕ) (hn : n < cfg0.N) (q : Fin 2) : EReal := ((outsAt0 m c n hn).2 : FVec Ideal S1x2 .f32) (ix2 0 q)

/-- What a point adds to them. -/
def pt (t : Fin cfg0.N) (q : Fin 2) : EReal := if q = 0 then pointB m c t else pointN m c t

theorem emb0 : (ix2 0 0 : S1x2.Idx) = (Rect.unit ![0, 0] ![1, 1] inb_S1x2_S1x1_0_0 : Rect S1x2).emb (ix2 (0 : Fin 1) (0 : Fin 1) : S1x1.Idx) := by
  funext a
  fin_cases a <;> rfl

theorem emb1 : (ix2 0 1 : S1x2.Idx) = (Rect.unit ![0, 1] ![1, 1] inb_S1x2_S1x1_0_1 : Rect S1x2).emb (ix2 (0 : Fin 1) (0 : Fin 1) : S1x1.Idx) := by
  funext a
  fin_cases a <;> rfl

theorem not_mem0 : (ix2 0 0 : S1x2.Idx) ∉ (Rect.unit ![0, 1] ![1, 1] inb_S1x2_S1x1_0_1 : Rect S1x2).set := by
  decide +kernel

/-- Under the two stores, the first number is the second store's, -/
theorem canon0 (f g : FVec Ideal S1x1 .f32) (L : List (View.Piece (Elt Ideal) S1x2 .f32)) :
    View.canon (Val := Elt Ideal) (e := .f32) (⟨Rect.unit ![0, 1] ![1, 1] inb_S1x2_S1x1_0_1, g⟩ :: ⟨Rect.unit ![0, 0] ![1, 1] inb_S1x2_S1x1_0_0, f⟩ :: L) (ix2 0 0 : S1x2.Idx)
      = f (ix2 0 0) :=
  (View.canon_cons_of_not_mem _ _ not_mem0).trans ((congrArg (View.canon _) emb0).trans (View.canon_cons_emb _ _ _ _))

/-- and the second number the first's. -/
theorem canon1 (g : FVec Ideal S1x1 .f32) (L : List (View.Piece (Elt Ideal) S1x2 .f32)) :
    View.canon (Val := Elt Ideal) (e := .f32) (⟨Rect.unit ![0, 1] ![1, 1] inb_S1x2_S1x1_0_1, g⟩ :: L) (ix2 0 1 : S1x2.Idx)
      = g (ix2 0 0) :=
  (congrArg (View.canon _) emb1).trans (View.canon_cons_emb _ _ _ _)

/-- The scratch's numbers, as a point loads them. -/
theorem ld0 (x : Vec Ideal S1x2 .f32) (hw : (Memref.whole cc0_scratch0).IsWhole) (h) :
    View.ld (View.read (Elt Ideal) (View.whole cc0_scratch0) (hw.unread x))
      (Rect.unit ![0, 0] ![1, 1] inb_S1x2_S1x1_0_0) (Shape.Idx.first h) = x (ix2 0 0) := by
  refine (congrFun (hw.read_unread x) _).trans ?_
  refine congrArg x ?_
  funext a
  fin_cases a <;> rfl

theorem ld1 (x : Vec Ideal S1x2 .f32) (hw : (Memref.whole cc0_scratch0).IsWhole) (h) :
    View.ld (View.read (Elt Ideal) (View.whole cc0_scratch0) (hw.unread x))
      (Rect.unit ![0, 1] ![1, 1] inb_S1x2_S1x1_0_1) (Shape.Idx.first h) = x (ix2 0 1) := by
  refine (congrFun (hw.read_unread x) _).trans ?_
  refine congrArg x ?_
  funext a
  fin_cases a <;> rfl

theorem step_B0 (t : Fin cfg0.N) (h0 : ¬t.val % 8 = 0) (h1 : ¬t.val % 8 = 7) :
    scr m c t.val t.isLt 0 = scr m c (t.val - 1) (Nat.lt_of_le_of_lt (Nat.sub_le _ _) t.isLt) 0 + pointB m c t := by
  unfold scr
  rw [outsAt0_B m c t h0 h1]
  frame_out
  refine (canon0 _ _ _).trans ?_
  refine (rowsB_eq (a0 m c t) (a1 m c t) (a2 m c t) (a3 m c t) (b0 m c t) (b1 m c t) (b2 m c t) (b3 m c t)
    (v0 m c t) (v1 m c t) (v2 m c t) (v3 m c t) (iblk m c 3 t) (iblk m c 5 t) (iblk m c 6 t) (iblk m c 7 t) (iblk m c 8 t) (iblk m c 4 t) _).trans ?_
  refine congrArg (· + pointB m c t) ?_
  exact ld0 _ _ _

theorem step_B1 (t : Fin cfg0.N) (h0 : ¬t.val % 8 = 0) (h1 : ¬t.val % 8 = 7) :
    scr m c t.val t.isLt 1 = scr m c (t.val - 1) (Nat.lt_of_le_of_lt (Nat.sub_le _ _) t.isLt) 1 + pointN m c t := by
  unfold scr
  rw [outsAt0_B m c t h0 h1]
  frame_out
  refine (canon1 _ _).trans ?_
  refine (rowsN_eq (a0 m c t) (a1 m c t) (a2 m c t) (a3 m c t) (b0 m c t) (b1 m c t) (b2 m c t) (b3 m c t)
    (v0 m c t) (v1 m c t) (v2 m c t) (v3 m c t) (iblk m c 3 t) (iblk m c 5 t) (iblk m c 6 t) (iblk m c 7 t) (iblk m c 8 t) _).trans ?_
  refine congrArg (· + pointN m c t) ?_
  exact ld1 _ _ _

theorem step_C0 (t : Fin cfg0.N) (h0 : ¬t.val % 8 = 0) (h1 : t.val % 8 = 7) :
    scr m c t.val t.isLt 0 = scr m c (t.val - 1) (Nat.lt_of_le_of_lt (Nat.sub_le _ _) t.isLt) 0 + pointB m c t := by
  unfold scr
  rw [outsAt0_C m c t h0 h1]
  frame_out
  refine (canon0 _ _ _).trans ?_
  refine (rowsB_eq (a0 m c t) (a1 m c t) (a2 m c t) (a3 m c t) (b0 m c t) (b1 m c t) (b2 m c t) (b3 m c t)
    (v0 m c t) (v1 m c t) (v2 m c t) (v3 m c t) (iblk m c 3 t) (iblk m c 5 t) (iblk m c 6 t) (iblk m c 7 t) (iblk m c 8 t) (iblk m c 4 t) _).trans ?_
  refine congrArg (· + pointB m c t) ?_
  exact ld0 _ _ _

theorem step_C1 (t : Fin cfg0.N) (h0 : ¬t.val % 8 = 0) (h1 : t.val % 8 = 7) :
    scr m c t.val t.isLt 1 = scr m c (t.val - 1) (Nat.lt_of_le_of_lt (Nat.sub_le _ _) t.isLt) 1 + pointN m c t := by
  unfold scr
  rw [outsAt0_C m c t h0 h1]
  frame_out
  refine (canon1 _ _).trans ?_
  refine (rowsN_eq (a0 m c t) (a1 m c t) (a2 m c t) (a3 m c t) (b0 m c t) (b1 m c t) (b2 m c t) (b3 m c t)
    (v0 m c t) (v1 m c t) (v2 m c t) (v3 m c t) (iblk m c 3 t) (iblk m c 5 t) (iblk m c 6 t) (iblk m c 7 t) (iblk m c 8 t) _).trans ?_
  refine congrArg (· + pointN m c t) ?_
  exact ld1 _ _ _

theorem step_A0 (t : Fin cfg0.N) (h0 : t.val % 8 = 0) (h1 : ¬t.val % 8 = 7) :
    scr m c t.val t.isLt 0 = 0 + pointB m c t := by
  unfold scr
  rw [outsAt0_A m c t h0 h1]
  frame_out
  refine (canon0 _ _ _).trans ?_
  refine (rowsB_eq (a0 m c t) (a1 m c t) (a2 m c t) (a3 m c t) (b0 m c t) (b1 m c t) (b2 m c t) (b3 m c t)
    (v0 m c t) (v1 m c t) (v2 m c t) (v3 m c t) (iblk m c 3 t) (iblk m c 5 t) (iblk m c 6 t) (iblk m c 7 t) (iblk m c 8 t) (iblk m c 4 t) _).trans ?_
  refine congrArg (fun z : EReal => z + pointB m c t) ?_
  exact Ideal.ofBits_zero_f32

theorem step_A1 (t : Fin cfg0.N) (h0 : t.val % 8 = 0) (h1 : ¬t.val % 8 = 7) :
    scr m c t.val t.isLt 1 = 0 + pointN m c t := by
  unfold scr
  rw [outsAt0_A m c t h0 h1]
  frame_out
  refine (canon1 _ _).trans ?_
  refine (rowsN_eq (a0 m c t) (a1 m c t) (a2 m c t) (a3 m c t) (b0 m c t) (b1 m c t) (b2 m c t) (b3 m c t)
    (v0 m c t) (v1 m c t) (v2 m c t) (v3 m c t) (iblk m c 3 t) (iblk m c 5 t) (iblk m c 6 t) (iblk m c 7 t) (iblk m c 8 t) _).trans ?_
  exact congrArg (· + pointN m c t) Ideal.ofBits_zero_f32

theorem lt7 : 7 < cfg0.N := lt_of_lt_of_eq (by decide : 7 < 8) N_0.symm

theorem scr_last (q : Fin 2) : scr m c 7 lt7 q = ∑ p : Fin cfg0.N, pt m c p q := by
  have hN := N_0
  have h := Pipeline.eq_sum_fin_of_reset_step_apply_last (fun n h => scr m c n h) 8 (fun _ => 0) (pt m c)
    (fun t h0 q => by
      fin_cases q
      · exact step_A0 m c t h0 (by omega)
      · exact step_A1 m c t h0 (by omega))
    (fun t h0 q => by
      by_cases h1 : t.val % 8 = 7
      · fin_cases q
        · exact step_C0 m c t h0 h1
        · exact step_C1 m c t h0 h1
      · fin_cases q
        · exact step_B0 m c t h0 h1
        · exact step_B1 m c t h0 h1)
    (le_of_eq N_0) t0_7 N_0.symm q
  exact h.trans (zero_add _)

/-- The result: the last point's quotient sum. -/
theorem result_eq : ((dats m 0 c).arrAt 9 cfg0.N : FVec Ideal S1x1 .f32)
    = fun _ => k0_pay1 (F := Ideal) (scr m c 7 lt7 0) ((V m c main_v27 : FVec Ideal S1x1 .f32) (ix2 0 0)) (scr m c 7 lt7 1) := by
  refine (dats m 0 c).arrAt_eq_of_after_last 9 t0_7 (by decide +kernel) _ fun j => ?_
  rw [after0_9, outsAt0_C m c t0_7 (by decide) (by decide)]
  frame_out
  refine (cast_eq _ _).trans ?_
  refine congr (congr (congrArg (k0_pay1 (F := Ideal)) ?_) ?_) ?_
  · refine Eq.trans ?_ (step_C0 m c t0_7 (by decide) (by decide)).symm
    refine (rowsB_eq (a0 m c t0_7) (a1 m c t0_7) (a2 m c t0_7) (a3 m c t0_7) (b0 m c t0_7) (b1 m c t0_7) (b2 m c t0_7)
      (b3 m c t0_7) (v0 m c t0_7) (v1 m c t0_7) (v2 m c t0_7) (v3 m c t0_7) (iblk m c 3 t0_7) (iblk m c 5 t0_7)
      (iblk m c 6 t0_7) (iblk m c 7 t0_7) (iblk m c 8 t0_7) (iblk m c 4 t0_7) _).trans ?_
    exact congrArg (· + pointB m c t0_7) (ld0 _ _ _)
  · refine Eq.trans ?_ (congrFun (blk0 m c t0_7) (ix2 0 0))
    refine congrArg (iblk m c 0 t0_7) ?_
    funext a
    fin_cases a <;> rfl
  · refine Eq.trans ?_ (step_C1 m c t0_7 (by decide) (by decide)).symm
    refine (rowsN_eq (a0 m c t0_7) (a1 m c t0_7) (a2 m c t0_7) (a3 m c t0_7) (b0 m c t0_7) (b1 m c t0_7) (b2 m c t0_7)
      (b3 m c t0_7) (v0 m c t0_7) (v1 m c t0_7) (v2 m c t0_7) (v3 m c t0_7) (iblk m c 3 t0_7) (iblk m c 5 t0_7)
      (iblk m c 6 t0_7) (iblk m c 7 t0_7) (iblk m c 8 t0_7) _).trans ?_
    exact congrArg (· + pointN m c t0_7) (ld1 _ _ _)

end Cert.KernelIdeal.Loss
end
-- ==== Proof.MaskTable.lean ====
/- The table of the kernel's mask. -/
module

public import proofs.«01_k».proof.KernelIdeal

@[expose] public section

set_option maxRecDepth 16384

namespace Cert.KernelIdeal.Loss

open Cert.KernelIdeal

/-- The mask's table: one where the pair is ordered, zero elsewhere. -/
theorem mask_table : ∀ i j : Fin 128, lit0 ⟨i.val * 128 + j.val, by omega⟩ = if i < j then 0x3F800000#32 else 0x00000000#32 := by
  decide +kernel

end Cert.KernelIdeal.Loss
-- ==== Proof.KernelMask.lean ====
/- The kernel's mask of ordered pairs, read off its table. -/
module

public import proofs.«01_k».proof.Proof.Gen.KernelIdeal.Value
public import proofs.«01_k».proof.Proof.MaskTable
public import proofs.«01_k».proof.Proof.KernelHost
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Loss

open Cert.KernelIdeal Cert.KernelIdeal.Gen Cert.Loss

variable (m : (ℓ : Loc nD τ sig) → Buf (Elt Ideal) ℓ) (c : Dev nD)

theorem mask_apply (i j : Fin 128) (h : i.val * 128 + j.val < 16384) :
    (V m c main_v0 : FVec Ideal S1x16384 .f32) (ix2 0 ⟨i.val * 128 + j.val, h⟩) = if i < j then (1 : EReal) else 0 := by
  have e : (V m c main_v0 : FVec Ideal S1x16384 .f32)
      = (broadcastInDim S1x16384 ![1] bcast_S16384_S1x16384_1
          (fun i => FloatOps.ofBits .f32 (lit0 (S16384.rowMajor i)) : FVec Ideal S16384 .f32)) := by rfl
  rw [e]
  pointwise
  have hp : S16384.rowMajor (ix1 ⟨i.val * 128 + j.val, h⟩) = (⟨i.val * 128 + j.val, h⟩ : Fin 16384) :=
    Fin.ext (rowMajor_val1 _)
  rw [hp, mask_table i j]
  split
  · exact Ideal.ofBits_one_f32
  · exact Ideal.ofBits_zero_f32

end Cert.KernelIdeal.Loss
end
-- ==== Proof.Target.lean ====
/- The two sums over the batch of which both programs' result is made. -/
module

public import proofs.«01_k».proof.Proof.Spec

@[expose] public section

noncomputable section

open Idealize.ShloMosaic

namespace Cert.Loss

/-- The finite inputs of the loss: distances, the two scores, and the network's weights. -/
structure Inputs where
  x : Fin 32 → Fin 512 → EReal
  t : Fin 32 → Fin 512 → EReal
  s : Fin 32 → Fin 512 → EReal
  w : Fin 3 → Fin 64 → EReal
  b : Fin 64 → EReal
  wh : Fin 64 → Fin 64 → EReal
  wo : Fin 64 → EReal

/-- Every entry is a real number. -/
structure Inputs.Real (I : Inputs) : Prop where
  x : ∀ b i, IsReal (I.x b i)
  t : ∀ b i, IsReal (I.t b i)
  s : ∀ b i, IsReal (I.s b i)
  w : ∀ r k, IsReal (I.w r k)
  b : ∀ k, IsReal (I.b k)
  wh : ∀ k j, IsReal (I.wh k j)
  wo : ∀ j, IsReal (I.wo j)

/-- The part of the first layer that no distance enters: a permutation's standard deviation is the root of 21888. -/
def Inputs.bias (I : Inputs) (k : Fin 64) : EReal := Ideal.sqrt ((21888 : ℝ) : EReal) * I.w 2 k + I.b k

/-- The weight of the pair at places `i` and `j` of batch row `b`. -/
def Inputs.weight (I : Inputs) (b : Fin 32) (i j : Fin 128) : EReal :=
  Cert.Loss.weight (I.w 0) I.bias I.wh I.wo (dif (I.x b) (I.x b) i j)

/-- The weighted cross entropies of the whole batch. -/
def Inputs.lossSum (I : Inputs) : EReal := ∑ b, rowLoss (I.x b) (I.t b) (I.s b) (I.w 0) I.bias I.wh I.wo

/-- The norms of the whole batch. -/
def Inputs.normSum (I : Inputs) : EReal := ∑ b, rowNorm (I.x b) (I.w 0) I.bias I.wh I.wo

end Cert.Loss

end
-- ==== Proof.KernelValue.lean ====
/- The kernel's result: the two sums over the batch, divided and added. -/
module

public import proofs.«01_k».proof.Proof.Gen.KernelIdeal.Value
public import proofs.«01_k».proof.Proof.KernelRun
public import proofs.«01_k».proof.Proof.KernelMask
public import proofs.«01_k».proof.Proof.Target
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Loss

open Cert.KernelIdeal Cert.KernelIdeal.Gen Cert.Loss

variable (m : (ℓ : Loc nD τ sig) → Buf (Elt Ideal) ℓ) (c : Dev nD)

/-- The inputs, as the programs are launched with them. -/
def inputs : Inputs where
  x b i := dist m c (ix2 b i)
  t b i := tScore m c (ix2 b i)
  s b i := sScore m c (ix2 b i)
  w r k := wIn m c (ix2 r k)
  b k := bIn m c (ix1 k)
  wh k j := wHid m c (ix3 0 k j)
  wo j := wOut m c (ix2 j 0)

theorem isReal_bias {I : Inputs} (h : I.Real) (k : Fin 64) : IsReal (I.bias k) := by
  obtain ⟨w, hw⟩ := h.w 2 k
  obtain ⟨b, hb⟩ := h.b k
  refine ⟨Real.sqrt 21888 * w + b, ?_⟩
  rw [Inputs.bias, hw, hb, Ideal.sqrt_coe, if_neg (by norm_num), EReal.coe_add, EReal.coe_mul]

section Row

variable (hI : (inputs m c).Real) (t : Fin cfg0.N) (r : Fin 4)
  (a : FVec Ideal S1x1x512 .f32) (b : FVec Ideal S1x512x1 .f32) (v : FVec Ideal S1x3x512 .f32)
  (ha : ∀ i, a (ix3 0 0 i) = (iblk m c 1 t : FVec Ideal S4x3x512 .f32) (ix3 r 0 i))
  (hv : ∀ q i, v (ix3 0 q i) = (iblk m c 1 t : FVec Ideal S4x3x512 .f32) (ix3 r q i))
  (hb : ∀ i, b (ix3 0 i 0) = (iblk m c 2 t : FVec Ideal S4x512x1 .f32) (ix3 r i 0))

include hI ha hv hb

/-- A row's loss and norm at a grid point are those of its batch row. -/
theorem row_value :
    rowB a b v (iblk m c 3 t) (iblk m c 5 t) (iblk m c 6 t) (iblk m c 7 t) (iblk m c 8 t) (iblk m c 4 t)
        = rowLoss ((inputs m c).x (row t r)) ((inputs m c).t (row t r)) ((inputs m c).s (row t r))
            ((inputs m c).w 0) (inputs m c).bias (inputs m c).wh (inputs m c).wo
      ∧ rowN a b v (iblk m c 3 t) (iblk m c 5 t) (iblk m c 6 t) (iblk m c 7 t) (iblk m c 8 t)
        = rowNorm ((inputs m c).x (row t r)) ((inputs m c).w 0) (inputs m c).bias (inputs m c).wh (inputs m c).wo := by
  have ea : ∀ i, a (ix3 0 0 i) = dist m c (ix2 (row t r) i) := fun i => by rw [ha, blk1, sts_dist]
  have ev0 : ∀ i, v (ix3 0 0 i) = dist m c (ix2 (row t r) i) := fun i => by rw [hv, blk1, sts_dist]
  have ev1 : ∀ i, v (ix3 0 1 i) = tScore m c (ix2 (row t r) i) := fun i => by rw [hv, blk1, sts_t]
  have ev2 : ∀ i, v (ix3 0 2 i) = sScore m c (ix2 (row t r) i) := fun i => by rw [hv, blk1, sts_s]
  have eb : ∀ i, b (ix3 0 i 0) = dist m c (ix2 (row t r) i) := fun i => by rw [hb, blk2, sdT]
  have hvr : ∀ q i, IsReal (v (ix3 0 q i)) := fun q i => by
    fin_cases q
    · exact (ev0 i).symm ▸ hI.x _ i
    · exact (ev1 i).symm ▸ hI.t _ i
    · exact (ev2 i).symm ▸ hI.s _ i
  rw [blk3, blk4, blk5, blk6, blk7, blk8]
  have hB := rowB_eq a b v (V m c main_v37) (V m c main_cst_0) (V m c main_v22) (V m c main_v23) (V m c main_v25) (V m c main_v0)
    (fun i => (eb i).trans (ea i).symm) (fun i => (ev0 i).trans (ea i).symm) hvr
    (diff_apply m c) (ones_apply m c) (fun k => w13_2 m c k (isReal_bias hI k)) (mask_apply m c)
  have hN := rowN_eq a b v (V m c main_v37) (V m c main_cst_0) (V m c main_v22) (V m c main_v23) (V m c main_v25)
    (fun i => (eb i).trans (ea i).symm) (fun i => (ev0 i).trans (ea i).symm) hvr
    (diff_apply m c) (ones_apply m c) (fun k => w13_2 m c k (isReal_bias hI k))
  have fa : (fun i => a (ix3 0 0 i)) = (inputs m c).x (row t r) := funext ea
  have f1 : (fun i => v (ix3 0 1 i)) = (inputs m c).t (row t r) := funext ev1
  have f2 : (fun i => v (ix3 0 2 i)) = (inputs m c).s (row t r) := funext ev2
  have g0 : (fun k => (V m c main_v22 : FVec Ideal S64x3 .f32) (ix2 k 0)) = (inputs m c).w 0 := funext (w13_0 m c)
  have g1 : (fun k => (V m c main_v22 : FVec Ideal S64x3 .f32) (ix2 k 1)) = (inputs m c).bias := funext (w13_1 m c)
  have g2 : (fun k j => (V m c main_v23 : FVec Ideal S1x64x64 .f32) (ix3 0 j k)) = (inputs m c).wh :=
    funext fun k => funext fun j => whb_apply m c j k
  have g3 : (fun j => (V m c main_v25 : FVec Ideal S1x64 .f32) (ix2 0 j)) = (inputs m c).wo := funext (wo_apply m c)
  rw [fa, f1, f2, g0, g1, g2, g3] at hB
  rw [fa, g0, g1, g2, g3] at hN
  exact ⟨hB, hN⟩

end Row

theorem point_value (hI : (inputs m c).Real) (t : Fin cfg0.N) :
    pointB m c t = ∑ r : Fin 4, rowLoss ((inputs m c).x (row t r)) ((inputs m c).t (row t r)) ((inputs m c).s (row t r))
            ((inputs m c).w 0) (inputs m c).bias (inputs m c).wh (inputs m c).wo
      ∧ pointN m c t = ∑ r : Fin 4, rowNorm ((inputs m c).x (row t r)) ((inputs m c).w 0) (inputs m c).bias (inputs m c).wh (inputs m c).wo := by
  have h0 := row_value m c hI t 0 (a0 m c t) (b0 m c t) (v0 m c t) (fun i => by blk_point [a0]) (fun q i => by blk_point [v0])
    (fun i => by blk_point [b0])
  have h1 := row_value m c hI t 1 (a1 m c t) (b1 m c t) (v1 m c t) (fun i => by blk_point [a1]) (fun q i => by blk_point [v1])
    (fun i => by blk_point [b1])
  have h2 := row_value m c hI t 2 (a2 m c t) (b2 m c t) (v2 m c t) (fun i => by blk_point [a2]) (fun q i => by blk_point [v2])
    (fun i => by blk_point [b2])
  have h3 := row_value m c hI t 3 (a3 m c t) (b3 m c t) (v3 m c t) (fun i => by blk_point [a3]) (fun q i => by blk_point [v3])
    (fun i => by blk_point [b3])
  rw [pointB, pointN, rowsB, rowsN, Fin.sum_univ_four, Fin.sum_univ_four, h0.1, h1.1, h2.1, h3.1, h0.2, h1.2, h2.2, h3.2]
  exact ⟨rfl, rfl⟩

/-- Eight points of four rows are the whole batch. -/
theorem sum_rows (f : Fin 32 → EReal) : ∑ t : Fin cfg0.N, ∑ r : Fin 4, f (row t r) = ∑ b, f b := by
  rw [Fin.sum_univ_tiles 8 4 rfl f]
  refine Finset.sum_congr rfl fun t _ => Finset.sum_congr rfl fun r _ => congrArg f (Fin.ext ?_)
  show 4 * t.val + r.val = t.val * 4 + r.val
  omega

/-- The kernel's result. -/
theorem kernel_value (hI : (inputs m c).Real) : ((dats m 0 c).arrAt 9 cfg0.N : FVec Ideal S1x1 .f32)
    = fun _ => Ideal.div (inputs m c).lossSum ((260096 : ℝ) : EReal)
        + Ideal.div ((((decay m c ix0).toInt : ℝ) : EReal) * ((32 : ℝ) : EReal)) (inputs m c).normSum := by
  rw [result_eq]
  have e0 : scr m c 7 lt7 0 = (inputs m c).lossSum := by
    rw [scr_last, Inputs.lossSum, ← sum_rows]
    exact Finset.sum_congr rfl fun t _ => (point_value m c hI t).1
  have e1 : scr m c 7 lt7 1 = (inputs m c).normSum := by
    rw [scr_last, Inputs.normSum, ← sum_rows]
    exact Finset.sum_congr rfl fun t _ => (point_value m c hI t).2
  funext j
  rw [e0, e1, wd_apply]
  pointwise [k0_pay1, ofBits_260096, ofBits_32]

end Cert.KernelIdeal.Loss
end
-- ==== Proof.RefGather.lean ====
/- What the reference's two kinds of gather and its sorts read, entry by entry. -/
module

public import proofs.«01_k».proof.ReferenceIdeal
public import proofs.«01_k».proof.Proof.Rank
public import Idealize.ShloMosaic.Lib.Pointwise
public import Idealize.ShloMosaic.Lib.ValueIdx
public import Idealize.ShloMosaic.Lib.StableHlo.Predicate

@[expose] public section

set_option maxRecDepth 16384

noncomputable section

open Idealize.ShloMosaic

namespace Cert.ReferenceIdeal.Loss

open Cert.ReferenceIdeal

variable [Facts]

theorem toInt_small {N : ℕ} (n : Fin N) (hN : N ≤ 2 ^ 31) : (BitVec.ofNat 32 n.val).toInt = (n.val : ℤ) := by
  have hn := n.isLt
  rw [BitVec.toInt_eq_toNat_of_lt, BitVec.toNat_ofNat, Nat.mod_eq_of_lt (by omega)]
  rw [BitVec.toNat_ofNat, Nat.mod_eq_of_lt (by omega)]
  omega

/-- A small index is not changed by the clamp of a gather. -/
theorem clamp_small {N : ℕ} (n : Fin (N + 1)) (hN : N + 1 ≤ 2 ^ 31) :
    min (BitVec.ofNat 32 n.val).toInt.toNat N + 0 + 0 = n.val := by
  have hn := n.isLt
  rw [toInt_small n hN, Int.toNat_natCast]
  omega

/-- A gather along the rows reads, of each row, the place its index names. -/
theorem gather_row {α : Type} (x : S32x512.Idx → α) (idx : IVec S32x128x1 32) (b : Fin 32) (k : Fin 128) (n : Fin 512)
    (h : idx (ix3 b k 0) = BitVec.ofNat 32 n.val) :
    Host.gather gather_S32x512_S32x128x1_S32x128_n_1_0_0_1_2_11 x idx (ix2 b k) = x (ix2 b n) := by
  unfold Host.gather
  refine congrArg x (funext fun a => Fin.ext ?_)
  have hsi : gather_S32x512_S32x128x1_S32x128_n_1_0_0_1_2_11.siIdx (ix2 b k) ⟨0, Nat.zero_lt_one⟩ = ix3 b k 0 := by
    funext a
    match a with
    | ⟨0, _⟩ => rfl
    | ⟨1, _⟩ => rfl
    | ⟨2, _⟩ => rfl
  match a with
  | ⟨0, _⟩ =>
    show 0 + b.val + 0 = b.val
    omega
  | ⟨1, _⟩ =>
    exact (congrArg (fun w : BitVec 32 => min w.toInt.toNat 511 + 0 + 0) ((congrArg idx hsi).trans h)).trans
      (clamp_small n (by decide))

/-- A gather of pairs reads, of each row, the entry its two indices name. -/
theorem gather_pair {α : Type} (x : S32x128x128.Idx → α) (idx : IVec S8128x2 32) (b : Fin 32) (p : Fin 8128) (i j : Fin 128)
    (hi : idx (ix2 p 0) = BitVec.ofNat 32 i.val) (hj : idx (ix2 p 1) = BitVec.ofNat 32 j.val) :
    Host.gather gather_S32x128x128_S8128x2_S32x8128_0_12_n_n_12_1_3211 x idx (ix2 b p) = x (ix3 b i j) := by
  unfold Host.gather
  refine congrArg x (funext fun a => Fin.ext ?_)
  have hs : ∀ q : Fin 2, gather_S32x128x128_S8128x2_S32x8128_0_12_n_n_12_1_3211.siIdx (ix2 b p) ⟨q.val, q.isLt⟩ = ix2 p q := by
    intro q
    funext a
    match a with
    | ⟨0, _⟩ => rfl
    | ⟨1, _⟩ => rfl
  match a with
  | ⟨0, _⟩ =>
    show 0 + 0 + b.val = b.val
    omega
  | ⟨1, _⟩ =>
    exact (congrArg (fun w : BitVec 32 => min w.toInt.toNat 127 + 0 + 0) ((congrArg idx (hs 0)).trans hi)).trans
      (clamp_small i (by decide))
  | ⟨2, _⟩ =>
    exact (congrArg (fun w : BitVec 32 => min w.toInt.toNat 127 + 0 + 0) ((congrArg idx (hs 1)).trans hj)).trans
      (clamp_small j (by decide))

/-- What a stable sort along the rows carries with its keys. -/
theorem sort_row {α β : Type} (cmp : α × β → α × β → BitVec 1) (x : S32x512.Idx → α) (y : S32x512.Idx → β) (b : Fin 32) (k : Fin 512) :
    (Host.sort2 S32x512 1 cmp x y).2 (ix2 b k)
      = y (ix2 b (sortedFrom (fun i j : Fin 512 => cmp (x (ix2 b i), y (ix2 b i)) (x (ix2 b j), y (ix2 b j)) == 1#1) k)) := by
  have e : ∀ i : Fin 512, (ix2 b k : S32x512.Idx).along 1 i = ix2 b i := fun i => by
    funext a
    match a with
    | ⟨0, _⟩ => rfl
    | ⟨1, _⟩ => rfl
  show y ((ix2 b k : S32x512.Idx).along 1 (sortedFrom (fun i j : Fin 512 => cmp (x ((ix2 b k : S32x512.Idx).along 1 i),
    y ((ix2 b k : S32x512.Idx).along 1 i)) (x ((ix2 b k : S32x512.Idx).along 1 j), y ((ix2 b k : S32x512.Idx).along 1 j)) == 1#1) k)) = _
  have hf : (fun i j : Fin 512 => cmp (x ((ix2 b k : S32x512.Idx).along 1 i), y ((ix2 b k : S32x512.Idx).along 1 i))
      (x ((ix2 b k : S32x512.Idx).along 1 j), y ((ix2 b k : S32x512.Idx).along 1 j)) == 1#1)
      = fun i j : Fin 512 => cmp (x (ix2 b i), y (ix2 b i)) (x (ix2 b j), y (ix2 b j)) == 1#1 :=
    funext fun i => funext fun j => by rw [e i, e j]
  rw [hf]
  exact congrArg y (e _)

/-- The comparison of two distances is that of the numbers. -/
theorem cmp_dist (l r : EReal × BitVec 32) : (comparator_f32_i32_d1 (F := Ideal) l r == 1#1) = decide (l.1 < r.1) := by
  have hc : ∀ z : EReal, Scalar.select (FloatOps.cmpf (F := Ideal) (φ := .f32) .une z z) (FloatOps.ofBits (F := Ideal) .f32 0x7FC00000#32)
      (Scalar.select (FloatOps.cmpf (F := Ideal) (φ := .f32) .oeq z (FloatOps.ofBits (F := Ideal) .f32 0x00000000#32)) (FloatOps.ofBits (F := Ideal) .f32 0x00000000#32) z) = z := by
    intro z
    have h1 : FloatOps.cmpf (F := Ideal) (φ := .f32) .une z z = 0#1 := by
      show BitVec.ofBool (decide (z ≠ z)) = 0#1
      simp
    rw [h1, show ∀ a b : EReal, Scalar.select (0#1) a b = b from fun _ _ => rfl]
    show Scalar.select (BitVec.ofBool (decide (z = Ideal.ofBits .f32 0x00000000#32))) (Ideal.ofBits .f32 0x00000000#32) z = z
    by_cases hz : z = Ideal.ofBits .f32 0x00000000#32
    · rw [decide_eq_true hz]; exact hz.symm
    · rw [decide_eq_false hz]; rfl
  show (FloatOps.cmpfTotal (F := Ideal) (φ := .f32) .lt _ _ == 1#1) = _
  rw [hc, hc]
  show (BitVec.ofBool (decide (l.1 < r.1)) == 1#1) = _
  cases decide (l.1 < r.1) <;> rfl

end Cert.ReferenceIdeal.Loss
end
-- ==== Proof.RefRank.lean ====
/- The reference's ranks and the two standard deviations it takes of them. -/
module

public import proofs.«01_k».proof.Proof.Gen.ReferenceIdeal.Run
public import proofs.«01_k».proof.Proof.RefGather
public import proofs.«01_k».proof.Proof.Consts
public import proofs.«01_k».proof.Proof.Target
public import Idealize.ShloMosaic.Lib.Pointwise
public import Idealize.ShloMosaic.Lib.ValueIdx

@[expose] public section

set_option maxRecDepth 16384

noncomputable section

open Idealize.ShloMosaic Idealize.ShloMosaic.TcCoe Idealize.SL.Sem

namespace Cert.ReferenceIdeal.Loss

open Cert.ReferenceIdeal Cert.ReferenceIdeal.Gen Cert.ReferenceIdeal.Value Cert.Loss

variable (V0 : Valuation τ sig (Elt Ideal))

/-- The distances. -/
def dist : FVec Ideal S32x512 .f32 := V0 (Proc.devRef .tc main_arg3)

/-- A row of distances. -/
def distRow (b : Fin 32) (i : Fin 512) : EReal := dist V0 (ix2 b i)

theorem position_apply (b : Fin 32) (k : Fin 512) : iotaInDim S32x512 32 1 (ix2 b k) = BitVec.ofNat 32 k.val := by
  pointwise

/-- A stable sort by negated distance of the positions puts at place `k` the sample's position. -/
theorem sort_positions (x : FVec Ideal S32x512 .f32) (y : FVec Ideal S32x512 .f32) (hy : ∀ b i, y (ix2 b i) = -x (ix2 b i))
    (b : Fin 32) (k : Fin 512) :
    (Host.sort2 S32x512 1 (comparator_f32_i32_d1 (F := Ideal)) y (iotaInDim S32x512 32 1)).2 (ix2 b k)
      = BitVec.ofNat 32 (place (fun i => x (ix2 b i)) k).val := by
  refine (sort_row _ _ _ b k).trans ((position_apply b _).trans (congrArg (fun n : Fin 512 => BitVec.ofNat 32 n.val) ?_))
  refine congrArg (fun f : Fin 512 → Fin 512 → Bool => sortedFrom f k) (funext fun i => funext fun j => ?_)
  refine (cmp_dist _ _).trans ?_
  rw [hy, hy]

/-- The first sort puts at place `k` the sample's position. -/
theorem order_apply (b : Fin 32) (k : Fin 512) :
    (res_main_v1 V0 : IVec S32x512 32) (ix2 b k) = BitVec.ofNat 32 (place (distRow V0 b) k).val := by
  unfold res_main_v1
  exact sort_positions (dist V0) _ (fun _ _ => rfl) b k

/-- The places the second sort reads: of all positions, in the order of the first sort's output. -/
def again (b : Fin 32) : Fin 512 → Fin 512 :=
  sortedFrom fun i j : Fin 512 => comparator_i32_i32_d1
    ((res_main_v1 V0 : IVec S32x512 32) (ix2 b i), iotaInDim S32x512 32 1 (ix2 b i))
    ((res_main_v1 V0 : IVec S32x512 32) (ix2 b j), iotaInDim S32x512 32 1 (ix2 b j)) == 1#1

theorem again_bijective (b : Fin 32) : Function.Bijective (again V0 b) := ⟨sortedFrom_injective _, sortedFrom_surjective _⟩

/-- A rank as a real number. -/
def rk (b : Fin 32) (k : Fin 512) : ℝ := ((again V0 b k).val : ℝ)

theorem sitofp_apply (y : IVec S32x512 32) (b : Fin 32) (k : Fin 512) (n : Fin 512) (h : y (ix2 b k) = BitVec.ofNat 32 n.val) :
    (sitofp .f32 y : FVec Ideal S32x512 .f32) (ix2 b k) = (((n.val : ℝ) : ℝ) : EReal) := by
  show (((y (ix2 b k)).toInt : ℝ) : EReal) = _
  rw [h, toInt_small n (by decide)]
  simp

theorem rank_apply (b : Fin 32) (k : Fin 512) : (res_main_v3 V0 : FVec Ideal S32x512 .f32) (ix2 b k) = ((rk V0 b k : ℝ) : EReal) := by
  unfold res_main_v3
  exact sitofp_apply _ b k (again V0 b k) ((sort_row _ _ _ b k).trans (position_apply b _))

/-- A sum over the ranks is a sum over the positions. -/
theorem sum_rk (b : Fin 32) (f : ℝ → ℝ) : ∑ k, f (rk V0 b k) = ∑ n : Fin 512, f (n.val : ℝ) :=
  (Equiv.ofBijective _ (again_bijective V0 b)).sum_comp fun n : Fin 512 => f (n.val : ℝ)

theorem sum_positions : ∑ n : Fin 512, (n.val : ℝ) = 130816 := by
  rw [Fin.sum_univ_eq_sum_range (fun n => (n : ℝ)) 512]
  have : (∑ n ∈ Finset.range 512, n) = 130816 := by decide +kernel
  rw [← Nat.cast_sum, this]
  norm_num

theorem sum_squares : ∑ n : Fin 512, ((n.val : ℝ) - 255.5) * ((n.val : ℝ) - 255.5) = 11184768 := by
  have e : ∀ n : Fin 512, ((n.val : ℝ) - 255.5) * ((n.val : ℝ) - 255.5) = ((n.val * n.val : ℕ) : ℝ) - 511 * (n.val : ℝ) + 65280.25 := by
    intro n; push_cast; ring
  rw [Finset.sum_congr rfl fun n _ => e n, Finset.sum_add_distrib, Finset.sum_sub_distrib, ← Finset.mul_sum, sum_positions,
    Fin.sum_univ_eq_sum_range (fun n => ((n * n : ℕ) : ℝ)) 512]
  have : (∑ n ∈ Finset.range 512, n * n) = 44608256 := by decide +kernel
  have h : (∑ n ∈ Finset.range 512, ((n * n : ℕ) : ℝ)) = 44608256 := by exact_mod_cast this
  rw [h]
  simp
  norm_num

theorem coe_sum {n : ℕ} (f : Fin n → ℝ) : ∑ k, ((f k : ℝ) : EReal) = ((∑ k, f k : ℝ) : EReal) :=
  (map_sum (⟨⟨Real.toEReal, rfl⟩, fun _ _ => rfl⟩ : ℝ →+ EReal) f _).symm

/-- The differences of the ranks. -/
theorem pairs_apply (b : Fin 32) (i j : Fin 512) :
    (res_main_v8 V0 : FVec Ideal S32x512x512 .f32) (ix3 b i j) = ((rk V0 b i - rk V0 b j : ℝ) : EReal) := by
  unfold res_main_v8
  pointwise
  rw [rank_apply, rank_apply]
  rfl

theorem mean_shift (b : Fin 32) (r : ℝ) : Ideal.div (∑ x, ((rk V0 b x - r : ℝ) : EReal)) (Ideal.ofBits .f32 1140850688#32)
    = ((255.5 - r : ℝ) : EReal) := by
  rw [coe_sum, sum_rk V0 b (fun z => z - r), Finset.sum_sub_distrib, sum_positions, ofBits_512, Ideal.div_coe (by norm_num), ← EReal.coe_mul]
  congr 1
  simp
  ring

/-- A difference less its column's mean is the rank less the ranks' mean. -/
theorem centred_pairs (b : Fin 32) (i j : Fin 512) :
    (res_main_call2_call0_v5 V0 : FVec Ideal S32x512x512 .f32) (ix3 b i j) = ((rk V0 b i - 255.5 : ℝ) : EReal) := by
  unfold res_main_call2_call0_v5
  pointwise [pairs_apply V0]
  rw [mean_shift, ← EReal.coe_sub]
  congr 1
  ring

theorem centred (b : Fin 32) (i : Fin 512) :
    (res_main_call3_call0_v5 V0 : FVec Ideal S32x512 .f32) (ix2 b i) = ((rk V0 b i - 255.5 : ℝ) : EReal) := by
  unfold res_main_call3_call0_v5
  pointwise [rank_apply V0]
  have := mean_shift V0 b 0
  simp only [sub_zero] at this
  rw [this, ← EReal.coe_sub]

theorem count_value : Ideal.ofBits .f32 1140850688#32 - FloatOps.sitofp (F := Ideal) .f32 1#32 = ((511 : ℝ) : EReal) := by
  rw [ofBits_512]
  show ((512 : ℝ) : EReal) - (((1#32).toInt : ℝ) : EReal) = _
  rw [← EReal.coe_sub]
  norm_num

theorem count_pairs : (res_main_call2_call0_v8 V0 : FVec Ideal S_ .f32) ix0 = ((511 : ℝ) : EReal) := by
  unfold res_main_call2_call0_v8
  pointwise
  exact count_value

theorem count_point : (res_main_call3_call0_v8 V0 : FVec Ideal S_ .f32) ix0 = ((511 : ℝ) : EReal) := by
  unfold res_main_call3_call0_v8
  pointwise
  exact count_value

/-- The root of a row of ranks' variance, with the guard on the count. -/
theorem deviation (b : Fin 32) (z : EReal) : Ideal.sqrt (if (0 : EReal) < ((511 : ℝ) : EReal) then
      Ideal.div (∑ k, ((rk V0 b k - 255.5 : ℝ) : EReal) * ((rk V0 b k - 255.5 : ℝ) : EReal)) ((511 : ℝ) : EReal) else z)
      = Ideal.sqrt ((21888 : ℝ) : EReal) := by
  rw [if_pos (EReal.coe_pos.mpr (by norm_num))]
  simp only [← EReal.coe_mul]
  rw [coe_sum, sum_rk V0 b (fun z => (z - 255.5) * (z - 255.5)), sum_squares, Ideal.div_coe (by norm_num), ← EReal.coe_mul]
  norm_num

/-- Every pair's uncertainty is the root of 21888. -/
theorem uncertainty_pairs (b : Fin 32) (j : Fin 512) :
    (Host.sqrt (select (broadcastInDim S32x512 ![] bcast_S_S32x512 (cmpf .ogt (res_main_call2_call0_v8 V0) (constant S_ .f32 0x00000000#32))) (Host.divf (Host.reduceAdd (mulf (res_main_call2_call0_v5 V0) (res_main_call2_call0_v5 V0)) (constant S_ .f32 0x00000000#32) reducesTo_S32x512x512_S32x512_d1 h_S_) (broadcastInDim S32x512 ![] bcast_S_S32x512 (res_main_call2_call0_v8 V0))) (broadcastInDim S32x512 ![] bcast_S_S32x512 (id (constant S_ .f32 0x7FC00000#32)))) : FVec Ideal S32x512 .f32) (ix2 b j)
      = Ideal.sqrt ((21888 : ℝ) : EReal) := by
  pointwise [centred_pairs V0, count_pairs V0]
  exact deviation V0 b _

/-- Every row's uncertainty is the root of 21888. -/
theorem uncertainty_point (b : Fin 32) :
    (Host.sqrt (select (broadcastInDim S32 ![] bcast_S_S32 (cmpf .ogt (res_main_call3_call0_v8 V0) (constant S_ .f32 0x00000000#32))) (Host.divf (Host.reduceAdd (mulf (res_main_call3_call0_v5 V0) (res_main_call3_call0_v5 V0)) (constant S_ .f32 0x00000000#32) reducesTo_S32x512_S32_d1 h_S_) (broadcastInDim S32 ![] bcast_S_S32 (res_main_call3_call0_v8 V0))) (broadcastInDim S32 ![] bcast_S_S32 (id (constant S_ .f32 0x7FC00000#32)))) : FVec Ideal S32 .f32) (ix1 b)
      = Ideal.sqrt ((21888 : ℝ) : EReal) := by
  pointwise [centred V0, count_point V0]
  exact deviation V0 b _

end Cert.ReferenceIdeal.Loss
end
-- ==== Proof.RefSelect.lean ====
/- What the reference takes at the selected samples: distances, uncertainties and scores. -/
module

public import proofs.«01_k».proof.Proof.RefRank

@[expose] public section

set_option maxRecDepth 16384

noncomputable section

open Idealize.ShloMosaic Idealize.ShloMosaic.TcCoe Idealize.SL.Sem

namespace Cert.ReferenceIdeal.Loss

open Cert.ReferenceIdeal Cert.ReferenceIdeal.Gen Cert.ReferenceIdeal.Value Cert.Loss

variable (V0 : Valuation τ sig (Elt Ideal))

/-- The samples selected: the first 128 of the order. -/
theorem selected_apply (b : Fin 32) (k : Fin 128) :
    (res_main_v11 V0 : IVec S32x128 32) (ix2 b k) = BitVec.ofNat 32 (sel (distRow V0 b) k).val := by
  unfold res_main_v11
  pointwise
  exact order_apply V0 b _

theorem nonneg (n : Fin 512) : IntOp.cmpi .slt (BitVec.ofNat 32 n.val) 0#32 = 0#1 := by
  show BitVec.ofBool (decide ((BitVec.ofNat 32 n.val).toInt < (0#32).toInt)) = 0#1
  rw [toInt_small n (by decide), decide_eq_false (by simp)]
  rfl

theorem inside (n : Fin 512) : IntOp.cmpi .sge (BitVec.ofNat 32 n.val) 0#32 = 1#1 := by
  show BitVec.ofBool (decide ((0#32).toInt ≤ (BitVec.ofNat 32 n.val).toInt)) = 1#1
  rw [toInt_small n (by decide), decide_eq_true (by simp)]
  rfl

theorem inside' (n : Fin 512) : IntOp.cmpi .sle (BitVec.ofNat 32 n.val) 511#32 = 1#1 := by
  show BitVec.ofBool (decide ((BitVec.ofNat 32 n.val).toInt ≤ (511#32).toInt)) = 1#1
  have := n.isLt
  rw [toInt_small n (by decide), decide_eq_true (by simp; omega)]
  rfl

/-- The same as the gathers take it, with the test for a negative index. -/
theorem index_apply (b : Fin 32) (k : Fin 128) :
    (res_main_call4_v5 V0 : IVec S32x128x1 32) (ix3 b k 0) = BitVec.ofNat 32 (sel (distRow V0 b) k).val := by
  unfold res_main_call4_v5
  pointwise [selected_apply V0]
  rw [nonneg]
  rfl

theorem within (idx : IVec S32x128x1 32) (b : Fin 32) (k : Fin 128) (n : Fin 512)
    (h : idx (ix3 b k 0) = BitVec.ofNat 32 n.val) :
    (Host.reduce IntOp.andi (andi (cmpi .sge idx (broadcastInDim S32x128x1 ![] bcast_S_S32x128x1 (constantI S_ 32 0#32))) (cmpi .sle idx (broadcastInDim S32x128x1 ![0, 1, 2] bcast_S1x1x1_S32x128x1_0_1_2 (broadcastInDim S1x1x1 ![2] bcast_S1_S1x1x1_2 (constantI S1 32 511#32))))) (constantI S_ 1 1#1) reducesTo_S32x128x1_S32x128_d2 h_S_ : IVec S32x128 1) (ix2 b k) = 1#1 := by
  pointwise
  rw [show (Finset.univ : Finset (Fin 1)) = {0} from rfl, Finset.fold_singleton, h, inside, inside']
  rfl

theorem take_apply (X : FVec Ideal S32x512 .f32) (idx : IVec S32x128x1 32) (b : Fin 32) (k : Fin 128) (n : Fin 512)
    (h : idx (ix3 b k 0) = BitVec.ofNat 32 n.val) :
    (select (Host.reduce IntOp.andi (andi (cmpi .sge idx (broadcastInDim S32x128x1 ![] bcast_S_S32x128x1 (constantI S_ 32 0#32))) (cmpi .sle idx (broadcastInDim S32x128x1 ![0, 1, 2] bcast_S1x1x1_S32x128x1_0_1_2 (broadcastInDim S1x1x1 ![2] bcast_S1_S1x1x1_2 (constantI S1 32 511#32))))) (constantI S_ 1 1#1) reducesTo_S32x128x1_S32x128_d2 h_S_) (Host.gather gather_S32x512_S32x128x1_S32x128_n_1_0_0_1_2_11 X idx) (broadcastInDim S32x128 ![] bcast_S_S32x128 (constant S_ .f32 0x7FC00000#32)) : FVec Ideal S32x128 .f32) (ix2 b k) = X (ix2 b n) := by
  have e : ∀ (p : IVec S32x128 1) (y z : FVec Ideal S32x128 .f32), p (ix2 b k) = 1#1 → select p y z (ix2 b k) = y (ix2 b k) := by
    intro p y z hp
    show Scalar.select (p (ix2 b k)) (y (ix2 b k)) (z (ix2 b k)) = _
    rw [hp]
    rfl
  exact (e _ _ _ (within idx b k n h)).trans (gather_row X idx b k n h)

theorem taken_dist (b : Fin 32) (k : Fin 128) :
    (res_main_v12 V0 : FVec Ideal S32x128 .f32) (ix2 b k) = distRow V0 b (sel (distRow V0 b) k) := by
  unfold res_main_v12
  exact take_apply _ _ b k _ (index_apply V0 b k)

theorem taken_uncertainty (b : Fin 32) (k : Fin 128) :
    (res_main_v13 V0 : FVec Ideal S32x128 .f32) (ix2 b k) = Ideal.sqrt ((21888 : ℝ) : EReal) := by
  unfold res_main_v13
  exact (take_apply _ _ b k _ (index_apply V0 b k)).trans (uncertainty_pairs V0 b _)

theorem taken_teacher (b : Fin 32) (k : Fin 128) :
    (res_main_v48 V0 : FVec Ideal S32x128 .f32) (ix2 b k)
      = (V0 (Proc.devRef .tc main_arg1) : FVec Ideal S32x512 .f32) (ix2 b (sel (distRow V0 b) k)) := by
  unfold res_main_v48
  exact take_apply _ _ b k _ (index_apply V0 b k)

theorem taken_student (b : Fin 32) (k : Fin 128) :
    (res_main_v49 V0 : FVec Ideal S32x128 .f32) (ix2 b k)
      = (V0 (Proc.devRef .tc main_arg2) : FVec Ideal S32x512 .f32) (ix2 b (sel (distRow V0 b) k)) := by
  unfold res_main_v49
  exact take_apply _ _ b k _ (index_apply V0 b k)

end Cert.ReferenceIdeal.Loss
end
-- ==== Proof.RefNet.lean ====
/- The reference's weights of the pairs. -/
module

public import proofs.«01_k».proof.Proof.RefSelect

@[expose] public section

set_option maxRecDepth 16384

noncomputable section

open Idealize.ShloMosaic Idealize.ShloMosaic.TcCoe Idealize.SL.Sem

namespace Cert.ReferenceIdeal.Loss

open Cert.ReferenceIdeal Cert.ReferenceIdeal.Gen Cert.ReferenceIdeal.Value Cert.Loss

variable (V0 : Valuation τ sig (Elt Ideal))

/-- The inputs, as the reference is launched with them. -/
def inputs : Inputs where
  x := distRow V0
  t b i := (V0 (Proc.devRef .tc main_arg1) : FVec Ideal S32x512 .f32) (ix2 b i)
  s b i := (V0 (Proc.devRef .tc main_arg2) : FVec Ideal S32x512 .f32) (ix2 b i)
  w r k := (V0 (Proc.devRef .tc main_arg4) : FVec Ideal S3x64 .f32) (ix2 r k)
  b k := (V0 (Proc.devRef .tc main_arg5) : FVec Ideal S64 .f32) (ix1 k)
  wh k j := (V0 (Proc.devRef .tc main_arg6) : FVec Ideal S1x64x64 .f32) (ix3 0 k j)
  wo j := (V0 (Proc.devRef .tc main_arg8) : FVec Ideal S64x1 .f32) (ix2 j 0)

/-- The biases the loss does not use are zero. -/
structure ZeroBiases : Prop where
  hid : ∀ j, (V0 (Proc.devRef .tc main_arg7) : FVec Ideal S1x64 .f32) (ix2 0 j) = (0 : EReal)
  out : (V0 (Proc.devRef .tc main_arg9) : FVec Ideal S1 .f32) (ix1 0) = (0 : EReal)

/-- The network on the three features, when the second is zero: its row of weights drops out, and the third feature's
    product joins the first bias. -/
theorem network (d u : EReal) (hu : u - u = 0) (w : Fin 3 → Fin 64 → EReal) (bi : Fin 64 → EReal) (wh : Fin 64 → Fin 64 → EReal)
    (wo : Fin 64 → EReal) :
    ∑ o, max (∑ k, max (∑ r : Fin 3, (if h : r.val < 1 then d else if h : r.val - 1 < 1 then u - u else u) * w r k + bi k) 0 * wh k o) 0
        * wo o
      = ∑ o, wo o * hid2 (w 0) (fun k => u * w 2 k + bi k) wh d o := by
  refine Finset.sum_congr rfl fun o _ => ?_
  rw [mul_comm, hid2]
  refine congrArg (fun z => wo o * max z 0) (Finset.sum_congr rfl fun k _ => ?_)
  rw [mul_comm, hid1, Fin.sum_univ_three, hu]
  simp [mul_comm, add_assoc]

theorem root_sub : Ideal.sqrt ((21888 : ℝ) : EReal) - Ideal.sqrt ((21888 : ℝ) : EReal) = 0 := by
  rw [Ideal.sqrt_coe, if_neg (by norm_num), ← EReal.coe_sub, sub_self]
  rfl

variable (hz : ZeroBiases V0)

include hz

theorem pre_activation (b : Fin 32) (i j : Fin 128) :
    (res_main_v46 V0 : FVec Ideal S32x128x128 .f32) (ix3 b i j)
      = ∑ o, (inputs V0).wo o * hid2 ((inputs V0).w 0) (inputs V0).bias (inputs V0).wh
          (dif ((inputs V0).x b) ((inputs V0).x b) i j) o := by
  unfold res_main_v46
  pointwise [taken_dist V0, taken_uncertainty V0, uncertainty_point V0, hz.hid, hz.out]
  exact network _ _ root_sub (inputs V0).w (inputs V0).b (inputs V0).wh (inputs V0).wo

theorem weight_apply (b : Fin 32) (i j : Fin 128) :
    (res_main_v47 V0 : FVec Ideal S32x128x128 .f32) (ix3 b i j) = (inputs V0).weight b i j := by
  unfold res_main_v47 res_main_call8_v3 res_main_call8_cst
  pointwise [pre_activation V0 hz]
  rw [if_neg (fun h => h rfl)]
  rfl

end Cert.ReferenceIdeal.Loss
end
-- ==== Proof.PairTable.lean ====
/- The reference's tables of the pairs `i < j`: every such pair once. -/
module

public import proofs.«01_k».proof.ReferenceIdeal
public import Mathlib.Data.EReal.Operations

@[expose] public section

set_option maxRecDepth 16384

namespace Cert.ReferenceIdeal.Loss

open Cert.ReferenceIdeal

/-- An entry of the tables: the first number is less than the second, and the two give back their place in the tables. -/
theorem pair_table : ∀ p : Fin 8128, (lit0 p).toNat < (lit1 p).toNat ∧ (lit1 p).toNat < 128
    ∧ (lit0 p).toNat * (255 - (lit0 p).toNat) / 2 + (lit1 p).toNat - (lit0 p).toNat - 1 = p.val := by
  decide +kernel

/-- The pairs `i < j` are as many as the tables' entries. -/
theorem card_pairs : (Finset.univ.filter fun q : Fin 128 × Fin 128 => q.1 < q.2).card = 8128 := by
  decide +kernel

/-- The pair at a place of the tables. -/
noncomputable def pairAt (p : Fin 8128) : Fin 128 × Fin 128 :=
  (⟨(lit0 p).toNat, lt_trans (pair_table p).1 (pair_table p).2.1⟩, ⟨(lit1 p).toNat, (pair_table p).2.1⟩)

theorem pairAt_injective : Function.Injective pairAt := by
  intro p q h
  have h0 : (lit0 p).toNat = (lit0 q).toNat := congrArg (fun z : Fin 128 × Fin 128 => z.1.val) h
  have h1 : (lit1 p).toNat = (lit1 q).toNat := congrArg (fun z : Fin 128 × Fin 128 => z.2.val) h
  have hp := (pair_table p).2.2
  have hq := (pair_table q).2.2
  rw [h0, h1] at hp
  exact Fin.ext (hp.symm.trans hq)

/-- The entries are the pairs `i < j`. -/
theorem image_pairAt : Finset.univ.map ⟨pairAt, pairAt_injective⟩ = Finset.univ.filter fun q : Fin 128 × Fin 128 => q.1 < q.2 := by
  refine Finset.eq_of_subset_of_card_le ?_ ?_
  · intro q hq
    obtain ⟨p, -, rfl⟩ := Finset.mem_map.mp hq
    exact Finset.mem_filter.mpr ⟨Finset.mem_univ _, (pair_table p).1⟩
  · rw [card_pairs, Finset.card_map, Finset.card_univ, Fintype.card_fin]

/-- A sum over the tables is the sum over all pairs, those not ordered counted with factor zero. -/
theorem sum_pairs (f : Fin 128 → Fin 128 → EReal) :
    ∑ p : Fin 8128, f (pairAt p).1 (pairAt p).2 = ∑ i, ∑ j, f i j * (if i < j then 1 else 0) := by
  have e : ∑ p : Fin 8128, f (pairAt p).1 (pairAt p).2
      = ∑ q ∈ Finset.univ.map ⟨pairAt, pairAt_injective⟩, f q.1 q.2 := by
    rw [Finset.sum_map]; rfl
  rw [e, image_pairAt, Finset.sum_filter, ← Finset.univ_product_univ, Finset.sum_product]
  refine Finset.sum_congr rfl fun i _ => Finset.sum_congr rfl fun j _ => ?_
  by_cases h : i < j <;> simp [h]

end Cert.ReferenceIdeal.Loss
-- ==== Proof.RefLoss.lean ====
/- The reference's result: the two sums over the batch, divided and added. -/
module

public import proofs.«01_k».proof.Proof.RefNet
public import proofs.«01_k».proof.Proof.PairTable

@[expose] public section

set_option maxRecDepth 16384

noncomputable section

open Idealize.ShloMosaic Idealize.ShloMosaic.TcCoe Idealize.SL.Sem

namespace Cert.ReferenceIdeal.Loss

open Cert.ReferenceIdeal Cert.ReferenceIdeal.Gen Cert.ReferenceIdeal.Value Cert.Loss

variable (V0 : Valuation τ sig (Elt Ideal))

/-- The table of pairs as the gathers take it. -/
def pairs : IVec S8128x2 32 :=
  concatenate S8128x2 1 [⟨S8128x1, (broadcastInDim S8128x1 ![0] bcast_S8128_S8128x1_0 (select (constantI S8128 1 0#1) (addi (res_main_c V0) (broadcastInDim S8128 ![] bcast_S_S8128 (constantI S_ 32 128#32))) (res_main_c V0)))⟩, ⟨S8128x1, (broadcastInDim S8128x1 ![0] bcast_S8128_S8128x1_0 (select (constantI S8128 1 0#1) (addi (res_main_c_1 V0) (broadcastInDim S8128 ![] bcast_S_S8128 (constantI S_ 32 128#32))) (res_main_c_1 V0)))⟩] concatenates_S8128x1_S8128x1_S8128x2_d1

theorem place_table (p : Fin 8128) : S8128.rowMajor (ix1 p) = p := Fin.ext (rowMajor_val1 _)

theorem firsts (p : Fin 8128) : (res_main_c V0 : IVec S8128 32) (ix1 p) = BitVec.ofNat 32 (pairAt p).1.val := by
  show lit0 (S8128.rowMajor (ix1 p)) = _
  rw [place_table]
  show _ = BitVec.ofNat 32 (BitVec.toNat (lit0 p))
  rw [BitVec.ofNat_toNat, BitVec.setWidth_eq]

theorem seconds (p : Fin 8128) : (res_main_c_1 V0 : IVec S8128 32) (ix1 p) = BitVec.ofNat 32 (pairAt p).2.val := by
  show lit1 (S8128.rowMajor (ix1 p)) = _
  rw [place_table]
  show _ = BitVec.ofNat 32 (BitVec.toNat (lit1 p))
  rw [BitVec.ofNat_toNat, BitVec.setWidth_eq]

theorem pairs_first (p : Fin 8128) : pairs V0 (ix2 p 0) = BitVec.ofNat 32 (pairAt p).1.val := by
  unfold pairs
  pointwise [firsts V0]

theorem pairs_second (p : Fin 8128) : pairs V0 (ix2 p 1) = BitVec.ofNat 32 (pairAt p).2.val := by
  unfold pairs
  pointwise [seconds V0]

/-- A gather of pairs by the tables. -/
theorem gathered (x : FVec Ideal S32x128x128 .f32) (b : Fin 32) (p : Fin 8128) :
    Host.gather gather_S32x128x128_S8128x2_S32x8128_0_12_n_n_12_1_3211 x (pairs V0) (ix2 b p) = x (ix3 b (pairAt p).1 (pairAt p).2) :=
  gather_pair x (pairs V0) b p _ _ (pairs_first V0 p) (pairs_second V0 p)

theorem div_one (x : EReal) : Ideal.div x 1 = x := by
  rw [← EReal.coe_one, Ideal.div_coe one_ne_zero, div_self one_ne_zero, EReal.coe_one, mul_one]

/-- The cross entropy, with the halving as the reference writes it. -/
theorem bce_div (t s : EReal) :
    max s 0 - s * Ideal.div (Ideal.sign t + 1) (Ideal.ofBits .f32 1073741824#32) + Ideal.log1p (Ideal.exp (-max s (-s))) = bce t s := by
  rw [ofBits_two, Ideal.div_coe two_ne_zero]
  rfl

/-- The differences of the student's scores at the tables' pairs. -/
theorem score_apply (b : Fin 32) (p : Fin 8128) :
    (res_main_v102 V0 : FVec Ideal S32x8128 .f32) (ix2 b p) = dif ((inputs V0).x b) ((inputs V0).s b) (pairAt p).1 (pairAt p).2 := by
  unfold res_main_v102
  have e := gathered V0
  unfold pairs at e
  pointwise [e]
  rw [div_one, taken_student, taken_student]
  rfl

variable (hz : ZeroBiases V0)

include hz

/-- The reference's result. -/
theorem result_apply : (shapeCast _ (addf (Host.divf (Host.reduceAdd (mulf (addf (subf (maximumf (res_main_v102 V0) (broadcastInDim S32x8128 ![] bcast_S_S32x8128 (constant S_ .f32 0x00000000#32))) (mulf (res_main_v102 V0) (Host.divf (addf (Host.sign (Host.gather gather_S32x128x128_S8128x2_S32x8128_0_12_n_n_12_1_3211 (subf (broadcastInDim S32x128x128 ![0, 1, 2] bcast_S32x128x1_S32x128x128_0_1_2 (broadcastInDim S32x128x1 ![0, 1] bcast_S32x128_S32x128x1_0_1 (res_main_v48 V0))) (broadcastInDim S32x128x128 ![0, 1, 2] bcast_S32x1x128_S32x128x128_0_1_2 (broadcastInDim S32x1x128 ![0, 2] bcast_S32x128_S32x1x128_0_2 (res_main_v48 V0)))) (pairs V0))) (broadcastInDim S32x8128 ![] bcast_S_S32x8128 (constant S_ .f32 0x3F800000#32))) (broadcastInDim S32x8128 ![] bcast_S_S32x8128 (constant S_ .f32 0x40000000#32))))) (Host.log1p (Host.exp (Host.negf (Host.absf (res_main_v102 V0)))))) (Host.gather gather_S32x128x128_S8128x2_S32x8128_0_12_n_n_12_1_3211 (res_main_v47 V0) (pairs V0))) (constant S_ .f32 0x00000000#32) reducesTo_S32x8128_S_d0_1 h_S_) (constant S_ .f32 0x487E0000#32)) (mulf (sitofp .f32 (V0 (Proc.devRef .tc main_arg10))) (Host.divf (constant S_ .f32 0x3F800000#32) (Host.divf (Host.reduceAdd (Host.sqrt (Host.reduceAdd (mulf (res_main_v47 V0) (res_main_v47 V0)) (constant S_ .f32 0x00000000#32) reducesTo_S32x128x128_S32_d1_2 h_S_)) (constant S_ .f32 0x00000000#32) reducesTo_S32_S_d0 h_S_) (constant S_ .f32 0x42000000#32))))) shapeCasts_S_S1x1 : FVec Ideal S1x1 .f32)
    = fun _ => Ideal.div (inputs V0).lossSum ((260096 : ℝ) : EReal)
        + ((((V0 (Proc.devRef .tc main_arg10) : IVec S_ 32) ix0).toInt : ℝ) : EReal)
          * Ideal.div 1 (Ideal.div (inputs V0).normSum ((32 : ℝ) : EReal)) := by
  funext y
  pointwise [gathered V0, score_apply V0, weight_apply V0 hz, taken_teacher V0]
  rw [ofBits_260096, ofBits_32]
  refine congrArg₂ (fun L N => Ideal.div L ((260096 : ℝ) : EReal)
    + ((((V0 (Proc.devRef .tc main_arg10) : IVec S_ 32) ix0).toInt : ℝ) : EReal) * Ideal.div 1 (Ideal.div N ((32 : ℝ) : EReal))) ?_ rfl
  refine Finset.sum_congr rfl fun b _ => Eq.trans (Finset.sum_congr rfl fun p _ => ?_)
    (sum_pairs fun i j => bce (dif ((inputs V0).x b) ((inputs V0).t b) i j) (dif ((inputs V0).x b) ((inputs V0).s b) i j)
      * (inputs V0).weight b i j)
  exact congrArg (· * (inputs V0).weight b (pairAt p).1 (pairAt p).2) (bce_div _ _)

end Cert.ReferenceIdeal.Loss
end
-- ==== Proof.Pre.lean ====
/- What the precondition says of the arrays. -/
module

public import proofs.«01_k».proof.Pre_finite_inputs_zero_biases
public import proofs.«01_k».proof.Proof.Spec
public import proofs.«01_k».proof.Proof.Consts
public import Idealize.ShloMosaic.Lib.ReduceAll
public import Idealize.ShloMosaic.Lib.Pointwise
public import Idealize.ShloMosaic.Lib.ValueIdx
public import Idealize.ShloMosaic.Lib.Decide
public import Idealize.ShloMosaic.Lib.StableHlo.Predicate

@[expose] public section

set_option maxRecDepth 16384

noncomputable section

open Idealize.ShloMosaic Cert.Loss

namespace Cert.Pre_finite_inputs_zero_biases

/-- The side conditions of the precondition's operations. -/
theorem facts : Facts where
  bcast_S_S32x512 := by decide
  reducesTo_S32x512_S_d0_1 := by decide
  h_S_ := by decide
  bcast_S_S3x64 := by decide
  reducesTo_S3x64_S_d0_1 := by decide
  bcast_S_S64 := by decide
  reducesTo_S64_S_d0 := by decide
  bcast_S_S1x64x64 := by decide
  reducesTo_S1x64x64_S_d0_1_2 := by decide
  bcast_S_S64x1 := by decide
  reducesTo_S64x1_S_d0_1 := by decide
  bcast_S_S1x64 := by decide
  reducesTo_S1x64_S_d0_1 := by decide
  bcast_S_S1 := by decide
  reducesTo_S1_S_d0 := by decide

instance : Subsingleton S_.Idx := ⟨fun a b => funext fun k => nomatch k⟩

theorem isReal_of_abs_lt {x : EReal} (h : max x (-x) < ⊤) : IsReal x := by
  induction x with
  | bot => simp at h
  | coe r => exact ⟨r, rfl⟩
  | top => simp at h

/-- An array whose entries all have an absolute value below infinity is an array of real numbers. -/
theorem finite_of_all {s : Shape} {axes : List (Fin s.rank)} (x y : FVec Ideal s .f32) (hy : ∀ i, y i = (⊤ : EReal)) (init : IVec S_ 1)
    (h : s.ReducesTo axes S_) (hu : 0 < S_.numel) (e : Host.reduce IntOp.andi (cmpf .olt (Host.absf x) y) init h hu ix0 = 1#1)
    (i : s.Idx) : IsReal (x i) := by
  have h1 := Host.reduce_andi_all _ _ h hu _ e i
  have h2 : BitVec.ofBool (decide ((max (x i) (-(x i)) : EReal) < y i)) = 1#1 := h1
  rw [StableHlo.Predicate.ofBool_eq_one_iff, decide_eq_true_eq, hy] at h2
  exact isReal_of_abs_lt h2

/-- An array whose entries all equal zero. -/
theorem zero_of_all {s : Shape} {axes : List (Fin s.rank)} (x y : FVec Ideal s .f32) (hy : ∀ i, y i = (0 : EReal)) (init : IVec S_ 1)
    (h : s.ReducesTo axes S_) (hu : 0 < S_.numel) (e : Host.reduce IntOp.andi (cmpf .oeq x y) init h hu ix0 = 1#1)
    (i : s.Idx) : x i = (0 : EReal) := by
  have h1 := Host.reduce_andi_all _ _ h hu _ e i
  have h2 : BitVec.ofBool (decide ((x i : EReal) = y i)) = 1#1 := h1
  rw [StableHlo.Predicate.ofBool_eq_one_iff, decide_eq_true_eq, hy] at h2
  exact h2

/-- The precondition, read. -/
theorem read [Facts] (a0 : IVec S32 32) (a1 a2 a3 : FVec Ideal S32x512 .f32) (a4 : FVec Ideal S3x64 .f32) (a5 : FVec Ideal S64 .f32)
    (a6 : FVec Ideal S1x64x64 .f32) (a7 : FVec Ideal S1x64 .f32) (a8 : FVec Ideal S64x1 .f32) (a9 : FVec Ideal S1 .f32) (a10 : IVec S_ 32)
    (h : fn (F := Ideal) a0 a1 a2 a3 a4 a5 a6 a7 a8 a9 a10 = fun _ => 1#1) :
    (((((((∀ i, IsReal (a1 i)) ∧ ∀ i, IsReal (a2 i)) ∧ ∀ i, IsReal (a3 i)) ∧ ∀ i, IsReal (a4 i)) ∧ ∀ i, IsReal (a5 i))
      ∧ ∀ i, IsReal (a6 i)) ∧ ∀ i, IsReal (a8 i)) ∧ (∀ i, a7 i = (0 : EReal)) ∧ ∀ i, a9 i = (0 : EReal) := by
  have h0 := congrFun h ix0
  unfold fn fn_part1 fn_part2 at h0
  have both : ∀ {p q : IVec S_ 1}, andi p q ix0 = 1#1 → p ix0 = 1#1 ∧ q ix0 = 1#1 := fun h => IntOp.andi_eq_one.1 h
  obtain ⟨h0, e9⟩ := both h0
  obtain ⟨h0, e7⟩ := both h0
  obtain ⟨h0, e8⟩ := both h0
  obtain ⟨h0, e6⟩ := both h0
  obtain ⟨h0, e5⟩ := both h0
  obtain ⟨h0, e4⟩ := both h0
  obtain ⟨h0, e3⟩ := both h0
  obtain ⟨e1, e2⟩ := both h0
  have inf := ofBits_inf
  have zero := Ideal.ofBits_zero_f32
  exact ⟨⟨⟨⟨⟨⟨⟨finite_of_all _ _ (fun _ => inf) _ _ _ e1, finite_of_all _ _ (fun _ => inf) _ _ _ e2⟩,
    finite_of_all _ _ (fun _ => inf) _ _ _ e3⟩, finite_of_all _ _ (fun _ => inf) _ _ _ e4⟩,
    finite_of_all _ _ (fun _ => inf) _ _ _ e5⟩, finite_of_all _ _ (fun _ => inf) _ _ _ e6⟩,
    finite_of_all _ _ (fun _ => inf) _ _ _ e8⟩, zero_of_all _ _ (fun _ => zero) _ _ _ e7, zero_of_all _ _ (fun _ => zero) _ _ _ e9⟩

end Cert.Pre_finite_inputs_zero_biases
end
-- ==== Proof.Equation.lean ====
/- The equation between the two programs' results: the batch's norms sum to a positive real number. -/
module

public import proofs.«01_k».proof.Proof.Target

@[expose] public section

noncomputable section

open Idealize.ShloMosaic

namespace Cert.Loss

/-- An extended real that is a positive real number. -/
def IsPos (x : EReal) : Prop := ∃ r : ℝ, 0 < r ∧ x = (r : EReal)

theorem IsPos.isReal {x : EReal} : IsPos x → IsReal x := fun ⟨r, _, h⟩ => ⟨r, h⟩

theorem IsReal.add {x y : EReal} : IsReal x → IsReal y → IsReal (x + y) := by
  rintro ⟨a, rfl⟩ ⟨b, rfl⟩; exact ⟨a + b, (EReal.coe_add a b).symm⟩

theorem IsReal.sub {x y : EReal} : IsReal x → IsReal y → IsReal (x - y) := by
  rintro ⟨a, rfl⟩ ⟨b, rfl⟩; exact ⟨a - b, (EReal.coe_sub a b).symm⟩

theorem IsReal.mul {x y : EReal} : IsReal x → IsReal y → IsReal (x * y) := by
  rintro ⟨a, rfl⟩ ⟨b, rfl⟩; exact ⟨a * b, (EReal.coe_mul a b).symm⟩

theorem IsReal.neg {x : EReal} : IsReal x → IsReal (-x) := by
  rintro ⟨a, rfl⟩; exact ⟨-a, (EReal.coe_neg a).symm⟩

theorem IsReal.max {x y : EReal} (hx : IsReal x) (hy : IsReal y) : IsReal (max x y) := by
  rcases max_choice x y with h | h <;> rw [h] <;> assumption

theorem isReal_zero : IsReal 0 := ⟨0, rfl⟩

theorem IsReal.sum {n : ℕ} {f : Fin n → EReal} (h : ∀ k, IsReal (f k)) : IsReal (∑ k, f k) :=
  Finset.sum_induction _ IsReal (fun _ _ => IsReal.add) isReal_zero fun k _ => h k

theorem IsPos.add {x y : EReal} : IsPos x → IsPos y → IsPos (x + y) := by
  rintro ⟨a, ha, rfl⟩ ⟨b, hb, rfl⟩; exact ⟨a + b, add_pos ha hb, (EReal.coe_add a b).symm⟩

theorem IsPos.mul {x y : EReal} : IsPos x → IsPos y → IsPos (x * y) := by
  rintro ⟨a, ha, rfl⟩ ⟨b, hb, rfl⟩; exact ⟨a * b, mul_pos ha hb, (EReal.coe_mul a b).symm⟩

theorem IsPos.sum {n : ℕ} [NeZero n] {f : Fin n → EReal} (h : ∀ k, IsPos (f k)) : IsPos (∑ k, f k) :=
  Finset.sum_induction_nonempty _ IsPos (fun _ _ => IsPos.add) Finset.univ_nonempty fun k _ => h k

theorem IsPos.sqrt {x : EReal} : IsPos x → IsPos (Ideal.sqrt x) := by
  rintro ⟨a, ha, rfl⟩
  exact ⟨Real.sqrt a, Real.sqrt_pos.mpr ha, by rw [Ideal.sqrt_coe, if_neg (not_lt.mpr ha.le)]⟩

/-- `log (1 + e^o)` of a real number is a positive real number. -/
theorem softplus_pos {o : EReal} (h : IsReal o) : IsPos (softplus o) := by
  obtain ⟨a, ha⟩ := h.max isReal_zero
  obtain ⟨s, hs⟩ := (h.max h.neg).neg
  have ha0 : 0 ≤ a := EReal.coe_nonneg.mp (ha ▸ le_max_right o 0)
  have h1 : 0 < Real.log (1 + Real.exp s) := Real.log_pos (by linarith [Real.exp_pos s])
  refine ⟨a + Real.log (1 + Real.exp s), add_pos_of_nonneg_of_pos ha0 h1, ?_⟩
  rw [softplus, tail, ha, hs, Ideal.exp_coe, Ideal.log1p, ← EReal.coe_one, ← EReal.coe_add, Ideal.log_coe,
    if_neg (not_le.mpr (by linarith [Real.exp_pos s])), EReal.coe_add]

variable {I : Inputs} (h : I.Real)

include h

theorem weight_pos (b : Fin 32) (i j : Fin 128) : IsPos (I.weight b i j) := by
  have hr : IsPos (Ideal.sqrt ((21888 : ℝ) : EReal)) := IsPos.sqrt ⟨21888, by norm_num, rfl⟩
  have hc : ∀ k, IsReal (I.bias k) := fun k => (hr.isReal.mul (h.w 2 k)).add (h.b k)
  have hd : IsReal (dif (I.x b) (I.x b) i j) := (h.x b _).sub (h.x b _)
  exact softplus_pos (IsReal.sum fun o => (h.wo o).mul ((IsReal.sum fun k => (h.wh k o).mul
    ((((h.w 0 k).mul hd).add (hc k)).max isReal_zero)).max isReal_zero))

theorem normSum_pos : IsPos I.normSum :=
  IsPos.sum fun b => (IsPos.sum fun i => IsPos.sum fun j => (weight_pos h b i j).mul (weight_pos h b i j)).sqrt

/-- The last term: the reference divides one by the mean of the norms, the kernel thirty-two by their sum. -/
theorem regularizer (d : ℝ) : Ideal.div ((d : EReal) * ((32 : ℝ) : EReal)) I.normSum
    = (d : EReal) * Ideal.div 1 (Ideal.div I.normSum ((32 : ℝ) : EReal)) := by
  obtain ⟨n, hn, e⟩ := normSum_pos h
  have h32 : n * (1 / 32) ≠ 0 := (mul_pos hn (by norm_num)).ne'
  rw [e, Ideal.div_coe hn.ne', Ideal.div_coe (by norm_num), ← EReal.coe_mul, ← EReal.coe_mul, ← EReal.coe_mul, Ideal.div_coe h32,
    one_mul, ← EReal.coe_mul]
  congr 1
  field_simp

end Cert.Loss

end
-- ==== Proof.Algebra.lean ====
/- The kernel and the reference give the same result. -/
module

public import proofs.«01_k».proof.Defs
public import proofs.«01_k».proof.Proof.KernelValue
public import proofs.«01_k».proof.Proof.RefLoss
public import proofs.«01_k».proof.Proof.Pre
public import proofs.«01_k».proof.Proof.Equation

@[expose] public section

set_option maxRecDepth 16384

noncomputable section

open Idealize.ShloMosaic Idealize.ShloMosaic.TcCoe Idealize.ShloMosaic.StableHlo Idealize.SL.Sem

namespace Cert.Loss

attribute [local instance] Cert.Pre_finite_inputs_zero_biases.facts

/-- The precondition makes the kernel's inputs real numbers. -/
theorem inputs_real (m : (ℓ : Loc Cert.KernelIdeal.nD Cert.KernelIdeal.τ Cert.KernelIdeal.sig) → Buf (Elt Ideal) ℓ)
    (hp : Cert.Pre_KernelIdeal_finite_inputs_zero_biases m) (c : Dev Cert.KernelIdeal.nD) :
    (Cert.KernelIdeal.Loss.inputs m c).Real := by
  have h := Cert.Pre_finite_inputs_zero_biases.read _ _ _ _ _ _ _ _ _ _ _ (hp c)
  obtain ⟨⟨⟨⟨⟨⟨⟨h1, h2⟩, h3⟩, h4⟩, h5⟩, h6⟩, h8⟩, h7, h9⟩ := h
  exact ⟨fun b i => h3 (ix2 b i), fun b i => h1 (ix2 b i), fun b i => h2 (ix2 b i), fun r k => h4 (ix2 r k), fun k => h5 (ix1 k),
    fun k j => h6 (ix3 0 k j), fun j => h8 (ix2 j 0)⟩

theorem algebraic : Cert.algebraic_KernelIdeal_ReferenceIdeal_pre_finite_inputs_zero_biases := by
  intro m g m' g' hp hargs
  refine ⟨fun c => (Cert.KernelIdeal.Gen.dats m 0 c).arrAt 9 Cert.KernelIdeal.cfg0.N, Cert.KernelIdeal.Value.run_blocks m g,
    (θ_run Cert.ReferenceIdeal.defs _ _).mono (fun r h c => ⟨(h c).1.trans ?_, (h c).2⟩) (Cert.ReferenceIdeal.Value.run m' g')⟩
  obtain ⟨-, e1, e2, e3, e4, e5, e6, e7, e8, e9, e10⟩ := hargs c
  have hI := inputs_real m hp c
  obtain ⟨-, h7, h9⟩ := Cert.Pre_finite_inputs_zero_biases.read _ _ _ _ _ _ _ _ _ _ _ (hp c)
  have hz : Cert.ReferenceIdeal.Loss.ZeroBiases (launchContents m' c) :=
    ⟨fun j => (congrFun e7 (ix2 0 j)).trans (h7 (ix2 0 j)), (congrFun e9 (ix1 0)).trans (h9 (ix1 0))⟩
  have hin : Cert.ReferenceIdeal.Loss.inputs (launchContents m' c) = Cert.KernelIdeal.Loss.inputs m c := by
    unfold Cert.ReferenceIdeal.Loss.inputs Cert.KernelIdeal.Loss.inputs
    rw [Inputs.mk.injEq]
    exact ⟨funext fun b => funext fun i => congrFun e3 (ix2 b i), funext fun b => funext fun i => congrFun e1 (ix2 b i),
      funext fun b => funext fun i => congrFun e2 (ix2 b i), funext fun r => funext fun k => congrFun e4 (ix2 r k),
      funext fun k => congrFun e5 (ix1 k), funext fun k => funext fun j => congrFun e6 (ix3 0 k j),
      funext fun j => congrFun e8 (ix2 j 0)⟩
  have hd : (launchContents m' c (Proc.devRef .tc Cert.ReferenceIdeal.main_arg10) : IVec Cert.ReferenceIdeal.S_ 32) ix0
      = Cert.KernelIdeal.Loss.decay m c ix0 := congrFun e10 ix0
  refine (Cert.ReferenceIdeal.Loss.result_apply (launchContents m' c) hz).trans
    (Eq.trans ?_ (Cert.KernelIdeal.Loss.kernel_value m c hI).symm)
  rw [hin, hd, regularizer hI]
  rfl

end Cert.Loss
end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Algebra
public import Idealize.ShloMosaic.Adequacy
public import Idealize.ShloMosaic.Init

@[expose] public section

noncomputable section

namespace Cert.Proof

open Idealize.ShloMosaic Idealize.SL.Sem Cert.Kernel

/-- The reference runs, keeps its arguments, and has no semaphore. -/
theorem reference_frame : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run m ρ)

theorem claim : Cert.Claim := ⟨Cert.Kernel.Gen.facts, Cert.KernelIdeal.Gen.facts, Cert.ReferenceIdeal.Gen.facts,
  Cert.Pre_finite_inputs_zero_biases.facts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  IdealRules.sign_bit.statement Cert.KernelIdeal.S1x16384 .f32,
  Cert.Loss.algebraic⟩

end Cert.Proof

end
